-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v4) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v47) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S4096x768 : Shape := ⟨2, ![4096, 768]⟩
abbrev S768x24576 : Shape := ⟨2, ![768, 24576]⟩
abbrev S24576x768 : Shape := ⟨2, ![24576, 768]⟩
abbrev S24576 : Shape := ⟨1, ![24576]⟩
abbrev S768 : Shape := ⟨1, ![768]⟩
abbrev S_ : Shape := ⟨0, ![]⟩
abbrev S4096 : Shape := ⟨1, ![4096]⟩
abbrev S4096x1 : Shape := ⟨2, ![4096, 1]⟩
abbrev S4096x24576 : Shape := ⟨2, ![4096, 24576]⟩
abbrev S1x24576 : Shape := ⟨2, ![1, 24576]⟩
abbrev S4096x65 : Shape := ⟨2, ![4096, 65]⟩

class Facts : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  bcast_S24576_S1x24576_1 : S24576.BroadcastsInDim S1x24576 (![1] : Fin 1 → Fin S1x24576.rank)
  bcast_S1x24576_S4096x24576_0_1 : S1x24576.BroadcastsInDim S4096x24576 (![0, 1] : Fin 2 → Fin S4096x24576.rank)
  sliceFits_S4096x24576_S4096x65 : S4096x24576.Slices (fun _ => 0) S4096x65
  slices_S4096x65_S4096x1_0_63 : S4096x65.Slices ![0, 63] S4096x1
  slices_S4096x65_S4096x1_0_64 : S4096x65.Slices ![0, 64] S4096x1
  dot_S4096x768_S768x24576_S4096x24576_1_0_0_1_n_n_wf : DotDims.WF S4096x768 S768x24576 S4096x24576 [1] [0] [0] [1] [] []

variable [Facts]

def dot_S4096x768_S768x24576_S4096x24576_1_0_0_1_n_n : DotDims S4096x768 S768x24576 S4096x24576 where
  lhsContracting := [1]
  rhsContracting := [0]
  lhsNonContracting := [0]
  rhsNonContracting := [1]
  lhsBatch := []
  rhsBatch := []
  wf := dot_S4096x768_S768x24576_S4096x24576_1_0_0_1_n_n_wf
def fn_part1 {F : FTy → Type} [FloatOps F] (main_v16 : FVec F S4096x24576 .f32) (main_v18 : FVec F S4096x24576 .f32) : IVec S4096x768 1 :=
  let main_v19 : FVec F S4096x24576 .f32 := addf main_v16 main_v18
  let main_values : FVec F S4096x65 .f32 := (fun x => (Host.topK S4096x65 1 (FloatOps.cmpfTotal .gt) x sliceFits_S4096x24576_S4096x65).1) main_v19
  let main_indices : IVec S4096x65 32 := (fun x => (Host.topK S4096x65 1 (FloatOps.cmpfTotal .gt) x sliceFits_S4096x24576_S4096x65).2) main_v19
  let main_v20 : FVec F S4096x1 .f32 := (extractStridedSlice S4096x1 ![0, 63] · slices_S4096x65_S4096x1_0_63) main_values
  let main_cst_4 : FVec F S_ .f32 := constant S_ .f32 0x7F7FFFFF#32
  let main_v21 : FVec F S4096x1 .f32 := broadcastInDim S4096x1 ![] bcast_S_S4096x1 main_cst_4
  let main_v22 : FVec F S4096x1 .f32 := minimumf main_v20 main_v21
  let main_cst_5 : FVec F S_ .f32 := constant S_ .f32 0x34000000#32
  let main_v23 : FVec F S4096x1 .f32 := broadcastInDim S4096x1 ![] bcast_S_S4096x1 main_cst_5
  let main_v24 : FVec F S4096x1 .f32 := mulf main_v22 main_v23
  let main_cst_6 : FVec F S_ .f32 := constant S_ .f32 0x00800000#32
  let main_v25 : FVec F S4096x1 .f32 := broadcastInDim S4096x1 ![] bcast_S_S4096x1 main_cst_6
  let main_v26 : FVec F S4096x1 .f32 := maximumf main_v24 main_v25
  let main_v27 : FVec F S4096x1 .f32 := (extractStridedSlice S4096x1 ![0, 64] · slices_S4096x65_S4096x1_0_64) main_values
  let main_cst_7 : FVec F S_ .f32 := constant S_ .f32 0x00000000#32
  let main_v28 : FVec F S4096x1 .f32 := broadcastInDim S4096x1 ![] bcast_S_S4096x1 main_cst_7
  let main_v29 : IVec S4096x1 1 := cmpf .ole main_v27 main_v28
  let main_v30 : FVec F S4096x1 .f32 := addf main_v27 main_v26
  let main_v31 : IVec S4096x1 1 := cmpf .ole main_v30 main_v22
  let main_v32 : IVec S4096x1 1 := ori main_v29 main_v31
  let main_v33 : IVec S4096x768 1 := broadcastInDim S4096x768 ![0, 1] bcast_S4096x1_S4096x768_0_1 main_v32
  main_v33

def fn {F : FTy → Type} [FloatOps F] (main_arg0 : FVec F S4096x768 .f32) (main_arg1 : FVec F S768x24576 .f32) (main_arg2 : FVec F S24576x768 .f32) (main_arg3 : FVec F S24576 .f32) (main_arg4 : FVec F S768 .f32) : IVec S4096x768 1 :=
  let main_cst : FVec F S_ .f32 := constant S_ .f32 0x00000000#32
  let main_v0 : FVec F S4096 .f32 := (fun x v => Host.reduceAdd x v reducesTo_S4096x768_S4096_d1 h_S_) main_arg0 main_cst
  let main_v1 : FVec F S4096x1 .f32 := broadcastInDim S4096x1 ![0] bcast_S4096_S4096x1_0 main_v0
  let main_cst_0 : FVec F S_ .f32 := constant S_ .f32 0x44400000#32
  let main_v2 : FVec F S4096x1 .f32 := broadcastInDim S4096x1 ![] bcast_S_S4096x1 main_cst_0
  let main_v3 : FVec F S4096x1 .f32 := Host.divf main_v1 main_v2
  let main_v4 : FVec F S4096x768 .f32 := broadcastInDim S4096x768 ![0, 1] bcast_S4096x1_S4096x768_0_1 main_v3
  let main_v5 : FVec F S4096x768 .f32 := subf main_arg0 main_v4
  let main_v6 : FVec F S4096x768 .f32 := mulf main_v5 main_v5
  let main_cst_1 : FVec F S_ .f32 := constant S_ .f32 0x00000000#32
  let main_v7 : FVec F S4096 .f32 := (fun x v => Host.reduceAdd x v reducesTo_S4096x768_S4096_d1 h_S_) main_v6 main_cst_1
  let main_v8 : FVec F S4096x1 .f32 := broadcastInDim S4096x1 ![0] bcast_S4096_S4096x1_0 main_v7
  let main_cst_2 : FVec F S_ .f32 := constant S_ .f32 0x44400000#32
  let main_v9 : FVec F S4096x1 .f32 := broadcastInDim S4096x1 ![] bcast_S_S4096x1 main_cst_2
  let main_v10 : FVec F S4096x1 .f32 := Host.divf main_v8 main_v9
  let main_cst_3 : FVec F S_ .f32 := constant S_ .f32 0x3727C5AC#32
  let main_v11 : FVec F S4096x1 .f32 := broadcastInDim S4096x1 ![] bcast_S_S4096x1 main_cst_3
  let main_v12 : FVec F S4096x1 .f32 := addf main_v10 main_v11
  let main_v13 : FVec F S4096x1 .f32 := Host.sqrt main_v12
  let main_v14 : FVec F S4096x768 .f32 := broadcastInDim S4096x768 ![0, 1] bcast_S4096x1_S4096x768_0_1 main_v13
  let main_v15 : FVec F S4096x768 .f32 := Host.divf main_v5 main_v14
  let main_v16 : FVec F S4096x24576 .f32 := (fun l r => Host.dotGeneral dot_S4096x768_S768x24576_S4096x24576_1_0_0_1_n_n none l r) main_v15 main_arg1
  let main_v17 : FVec F S1x24576 .f32 := broadcastInDim S1x24576 ![1] bcast_S24576_S1x24576_1 main_arg3
  let main_v18 : FVec F S4096x24576 .f32 := broadcastInDim S4096x24576 ![0, 1] bcast_S1x24576_S4096x24576_0_1 main_v17
  fn_part1 (F := F) main_v16 main_v18
-- ==== Kernel.lean ====
abbrev S4096x768 : Shape := ⟨2, ![4096, 768]⟩
abbrev S768x24576 : Shape := ⟨2, ![768, 24576]⟩
abbrev S24576x768 : Shape := ⟨2, ![24576, 768]⟩
abbrev S24576 : Shape := ⟨1, ![24576]⟩
abbrev S768 : Shape := ⟨1, ![768]⟩
abbrev S1x24576 : Shape := ⟨2, ![1, 24576]⟩
abbrev S1x768 : Shape := ⟨2, ![1, 768]⟩
abbrev S4096x24576 : Shape := ⟨2, ![4096, 24576]⟩
abbrev S4096x1 : Shape := ⟨2, ![4096, 1]⟩
abbrev S1024x768 : Shape := ⟨2, ![1024, 768]⟩
abbrev S768x2048 : Shape := ⟨2, ![768, 2048]⟩
abbrev S1x2048 : Shape := ⟨2, ![1, 2048]⟩
abbrev S1024x2048 : Shape := ⟨2, ![1024, 2048]⟩
abbrev S1024x1 : Shape := ⟨2, ![1024, 1]⟩
abbrev S1024 : Shape := ⟨1, ![1024]⟩
abbrev S128x24576 : Shape := ⟨2, ![128, 24576]⟩
abbrev S128x1 : Shape := ⟨2, ![128, 1]⟩
abbrev S128 : Shape := ⟨1, ![128]⟩
abbrev S512x2048 : Shape := ⟨2, ![512, 2048]⟩
abbrev S2048x768 : Shape := ⟨2, ![2048, 768]⟩
abbrev S512x1 : Shape := ⟨2, ![512, 1]⟩
abbrev S512x768 : Shape := ⟨2, ![512, 768]⟩

abbrev nBuf : Space → Nat
  | .hbm => 12
  | .vmem => 29
  | .smem => 0
  | _ => 0

abbrev bufTy : (tb : Table) → Fin (tcTables nBuf tb) → BufTy
  | .hbm, ⟨0, _⟩ => ⟨S4096x768, .f32⟩
  | .hbm, ⟨1, _⟩ => ⟨S768x24576, .f32⟩
  | .hbm, ⟨2, _⟩ => ⟨S24576x768, .f32⟩
  | .hbm, ⟨3, _⟩ => ⟨S24576, .f32⟩
  | .hbm, ⟨4, _⟩ => ⟨S768, .f32⟩
  | .hbm, ⟨5, _⟩ => ⟨S1x24576, .f32⟩
  | .hbm, ⟨6, _⟩ => ⟨S1x768, .f32⟩
  | .hbm, ⟨7, _⟩ => ⟨S4096x24576, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x768, .f32⟩
  | .local _ .vmem, ⟨0, _⟩ => ⟨S1024x768, .f32⟩
  | .local _ .vmem, ⟨1, _⟩ => ⟨S1024x768, .f32⟩
  | .local _ .vmem, ⟨2, _⟩ => ⟨S768x2048, .f32⟩
  | .local _ .vmem, ⟨3, _⟩ => ⟨S768x2048, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S128x24576, .f32⟩
  | .local _ .vmem, ⟨13, _⟩ => ⟨S128x24576, .f32⟩
  | .local _ .vmem, ⟨14, _⟩ => ⟨S128x1, .f32⟩
  | .local _ .vmem, ⟨15, _⟩ => ⟨S128x1, .f32⟩
  | .local _ .vmem, ⟨16, _⟩ => ⟨S512x2048, .f32⟩
  | .local _ .vmem, ⟨17, _⟩ => ⟨S512x2048, .f32⟩
  | .local _ .vmem, ⟨18, _⟩ => ⟨S2048x768, .f32⟩
  | .local _ .vmem, ⟨19, _⟩ => ⟨S2048x768, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S1x768, .f32⟩
  | .local _ .vmem, ⟨27, _⟩ => ⟨S512x768, .f32⟩
  | .local _ .vmem, ⟨28, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![32], ![false]⟩

@[reducible] def k1_t1_loop : Scf.Loop 32 :=
  let c0_i32_1 : BitVec 32 := 0#32
  let c31_i32 : BitVec 32 := 31#32
  let v4 : BitVec 32 := Scalar.addi c0_i32_1 c31_i32
  let c1_i32 : BitVec 32 := 1#32
  ⟨c0_i32_1, v4, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x24576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 12], ![false, false]⟩

def k2_cond1 (i : grid2.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_7 : BitVec 32 := 0#32
  let v14 : BitVec 1 := Scalar.cmpi .ne v13 c0_i32_7
  v14

def k2_cond2 (i : grid2.Coords) : BitVec 1 :=
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .ne v16 c0_i32_9
  v17

def k2_cond3 (i : grid2.Coords) : BitVec 1 :=
  let arg1 : BitVec 32 := BitVec.ofNat 32 (i 1).val
  let c11_i32 : BitVec 32 := 11#32
  let v18 : BitVec 1 := Scalar.cmpi .eq arg1 c11_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]
-- ==== ReferenceIdeal.lean ====
abbrev S4096x768 : Shape := ⟨2, ![4096, 768]⟩
abbrev S768x24576 : Shape := ⟨2, ![768, 24576]⟩
abbrev S24576x768 : Shape := ⟨2, ![24576, 768]⟩
abbrev S24576 : Shape := ⟨1, ![24576]⟩
abbrev S768 : Shape := ⟨1, ![768]⟩
abbrev S_ : Shape := ⟨0, ![]⟩
abbrev S4096 : Shape := ⟨1, ![4096]⟩
abbrev S4096x1 : Shape := ⟨2, ![4096, 1]⟩
abbrev S4096x24576 : Shape := ⟨2, ![4096, 24576]⟩
abbrev S1x24576 : Shape := ⟨2, ![1, 24576]⟩
abbrev S4096x64 : Shape := ⟨2, ![4096, 64]⟩
abbrev S4096x64x1 : Shape := ⟨3, ![4096, 64, 1]⟩
abbrev S4096x64x2 : Shape := ⟨3, ![4096, 64, 2]⟩
abbrev S1x768 : Shape := ⟨2, ![1, 768]⟩

abbrev nBuf : Space → Nat
  | .hbm => 67
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S768x24576, .f32⟩
  | .hbm, ⟨2, _⟩ => ⟨S24576x768, .f32⟩
  | .hbm, ⟨3, _⟩ => ⟨S24576, .f32⟩
  | .hbm, ⟨4, _⟩ => ⟨S768, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x768, .f32⟩
  | .hbm, ⟨25, _⟩ => ⟨S4096x768, .f32⟩
  | .hbm, ⟨26, _⟩ => ⟨S4096x1, .f32⟩
  | .hbm, ⟨27, _⟩ => ⟨S4096x24576, .f32⟩
  | .hbm, ⟨28, _⟩ => ⟨S1x24576, .f32⟩
  | .hbm, ⟨29, _⟩ => ⟨S4096x24576, .f32⟩
  | .hbm, ⟨30, _⟩ => ⟨S4096x24576, .f32⟩
  | .hbm, ⟨31, _⟩ => ⟨S4096x64, .f32⟩
  | .hbm, ⟨32, _⟩ => ⟨S4096x64, .i32⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S4096, .i32⟩
  | .hbm, ⟨37, _⟩ => ⟨S4096x1, .i32⟩
  | .hbm, ⟨38, _⟩ => ⟨S_, .f32⟩
  | .hbm, ⟨39, _⟩ => ⟨S4096x24576, .f32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S_, .i32⟩
  | .hbm, ⟨44, _⟩ => ⟨S4096x1, .i32⟩
  | .hbm, ⟨45, _⟩ => ⟨S4096x1, .i32⟩
  | .hbm, ⟨46, _⟩ => ⟨S4096x1, .i32⟩
  | .hbm, ⟨47, _⟩ => ⟨S_, .i32⟩
  | .hbm, ⟨48, _⟩ => ⟨S4096x64, .i32⟩
  | .hbm, ⟨49, _⟩ => ⟨S4096x64, .i1⟩
  | .hbm, ⟨50, _⟩ => ⟨S_, .i32⟩
  | .hbm, ⟨51, _⟩ => ⟨S4096x64, .i32⟩
  | .hbm, ⟨52, _⟩ => ⟨S4096x64, .i32⟩
  | .hbm, ⟨53, _⟩ => ⟨S4096x64, .i32⟩
  | .hbm, ⟨54, _⟩ => ⟨S4096x64, .i32⟩
  | .hbm, ⟨55, _⟩ => ⟨S4096x64x1, .i32⟩
  | .hbm, ⟨56, _⟩ => ⟨S4096x64x1, .i32⟩
  | .hbm, ⟨57, _⟩ => ⟨S4096x64x2, .i32⟩
  | .hbm, ⟨58, _⟩ => ⟨S4096x24576, .f32⟩
  | .hbm, ⟨59, _⟩ => ⟨S4096x768, .f32⟩
  | .hbm, ⟨60, _⟩ => ⟨S1x768, .f32⟩
  | .hbm, ⟨61, _⟩ => ⟨S4096x768, .f32⟩
  | .hbm, ⟨62, _⟩ => ⟨S4096x768, .f32⟩
  | .hbm, ⟨63, _⟩ => ⟨S4096x768, .f32⟩
  | .hbm, ⟨64, _⟩ => ⟨S4096x768, .f32⟩
  | .hbm, ⟨65, _⟩ => ⟨S4096x768, .f32⟩
  | .hbm, ⟨66, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_values : Ref sig .tc := ⟨.hbm, 31, rfl⟩
abbrev main_indices : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Proof.KernelIdeal.Enc.lean ====
/-
  The encoder call on its grid of 4 row tiles by 12 column tiles.

  Each point takes 1024 rows of `x`, 2048 columns of the encoder's matrix and of its bias, and leaves three blocks:
  the pre-activations of the tile, the rows' means, and the rows' standard deviations.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Sae

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What every buffer of every device holds when a call is entered. -/
abbrev Entry (F : FTy → Type) [FloatOps F] := (c : Dev nD) → (b : Ref sig .tc) → Buf (Elt F) ((c : Thread nD τ).loc b)

variable (V : Entry F)

/-- Window `w`'s block of the encoder call at point `t`, out of the contents at entry. -/
def encBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev encRx : Rect S1024x768 := Rect.unit (s := S1024x768) ![0, 0] S1024x768.size inb_S1024x768_S1024x768_0_0
abbrev encRw : Rect S768x2048 := Rect.unit (s := S768x2048) ![0, 0] S768x2048.size inb_S768x2048_S768x2048_0_0
abbrev encRb : Rect S1x2048 := Rect.unit (s := S1x2048) ![0, 0] S1x2048.size inb_S1x2048_S1x2048_0_0
abbrev encRp : Rect S1024x2048 := Rect.unit (s := S1024x2048) ![0, 0] S1024x2048.size inb_S1024x2048_S1024x2048_0_0
abbrev encRm : Rect S1024x1 := Rect.unit (s := S1024x1) ![0, 0] S1024x1.size inb_S1024x1_S1024x1_0_0

/-- The tile of pre-activations a point leaves. -/
def encPre (x0 : Vec F S1024x768 .f32) (x1 : Vec F S768x2048 .f32) (x2 : Vec F S1x2048 .f32) : Vec F S1024x2048 .f32 :=
  View.canon [⟨encRp, k0_pay4 (View.ld x0 encRx) (View.ld x1 encRw) (View.ld x2 encRb)⟩]

/-- The rows' means a point leaves. -/
def encMean (x0 : Vec F S1024x768 .f32) : Vec F S1024x1 .f32 :=
  View.canon [⟨encRm, k0_pay1 (View.ld x0 encRx)⟩]

/-- The rows' standard deviations a point leaves. -/
def encStd (x0 : Vec F S1024x768 .f32) : Vec F S1024x1 .f32 :=
  View.canon [⟨encRm, k0_pay5 (View.ld x0 encRx)⟩]

/-- One store covers the tile of pre-activations. -/
theorem encPre_cover (p : Vec F S1024x2048 .f32) (y : S1024x2048.Idx) :
    ∃ pc ∈ ([⟨encRp, p⟩] : List (View.Piece (Elt F) S1024x2048 .f32)), y ∈ pc.1.set :=
  View.cover_of_tiled [⟨encRp, p⟩] S1024x2048.size (by rfl) y

/-- One store covers a column of row statistics. -/
theorem encCol_cover (p : Vec F S1024x1 .f32) (y : S1024x1.Idx) :
    ∃ pc ∈ ([⟨encRm, p⟩] : List (View.Piece (Elt F) S1024x1 .f32)), y ∈ pc.1.set :=
  View.cover_of_tiled [⟨encRm, p⟩] S1024x1.size (by rfl) y

set_option maxHeartbeats 1000000 in
/-- The encoder's body on whole buffers: the inputs stay, the outputs are the three blocks above. -/
theorem enc_kernel (c : Dev nD) (E : Set ℕ) (i : grid0.Coords)
    (a2 : Memref sig .tc .vmem S1024x768 .f32) (h2 : a2.IsWhole) (a3 : Memref sig .tc .vmem S768x2048 .f32) (h3 : a3.IsWhole)
    (a4 : Memref sig .tc .vmem S1x2048 .f32) (h4 : a4.IsWhole) (a5 : Memref sig .tc .vmem S1024x2048 .f32) (h5 : a5.IsWhole)
    (a6 : Memref sig .tc .vmem S1024x1 .f32) (h6 : a6.IsWhole) (a7 : Memref sig .tc .vmem S1024x1 .f32) (h7 : a7.IsWhole)
    (x0 : Vec F S1024x768 .f32) (x1 : Vec F S768x2048 .f32) (x2 : Vec F S1x2048 .f32) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare (encPre x0 x1 x2) ∗ owns (c : Thread nD τ) a6 fullShare (encMean x0)
            ∗ owns (c : Thread nD τ) a7 fullShare (encStd x0)) -∗ K ⟨⟩))
      ⊢ wp frame (wpE (defs₀ (F := F)) Variants.none c none) E (cc0__enc_body i a2 h2 a3 h3 a4 h4 a5 h5 a6 h6 a7 h7) K := by
  simp only [cc0__enc_body_eq_skeleton]; unfold cc0__enc_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (encPre_cover _)
  isplitl [H4]
  · iexists _; isplitr
    swap; · iexact H4
    ipureintro
    exact View.read_writes_eq_canon _ _ _ (encCol_cover _)
  iexists _; isplitr
  swap; · iexact H5
  ipureintro
  exact View.read_writes_eq_canon _ _ _ (encCol_cover _)

/-- The encoder call's data: its arrays as the call finds them, and what each window's buffer holds after each point. -/
def encDat (c : Dev nD) : Dat τ (Elt F) Unit ℕ (UR sig nD τ) ℕ cfg0 c where
  A w := V c (Pipeline.arrRef spec0 w)
  after w t := match w with
    | ⟨0, _⟩ => encBlk V c 0 t
    | ⟨1, _⟩ => encBlk V c 1 t
    | ⟨2, _⟩ => encBlk V c 2 t
    | ⟨3, _⟩ => encPre (encBlk V c 0 t) (encBlk V c 1 t) (encBlk V c 2 t)
    | ⟨4, _⟩ => encMean (encBlk V c 0 t)
    | ⟨5, _⟩ => encStd (encBlk V c 0 t)
  Φ _ := Pipeline.ΦA spec0 c
  q _ := fullShare
  owed _ := 0

theorem enc_A (c : Dev nD) (w : Fin cfg0.W) : (encDat V c).A w = V c (Pipeline.arrRef spec0 w) := by
  dsimp only [encDat]

theorem enc_after0 (c : Dev nD) (t : Fin cfg0.N) : (encDat V c).after 0 t = encBlk V c 0 t := by dsimp only [encDat]
theorem enc_after1 (c : Dev nD) (t : Fin cfg0.N) : (encDat V c).after 1 t = encBlk V c 1 t := by dsimp only [encDat]
theorem enc_after2 (c : Dev nD) (t : Fin cfg0.N) : (encDat V c).after 2 t = encBlk V c 2 t := by dsimp only [encDat]
theorem enc_after3 (c : Dev nD) (t : Fin cfg0.N) :
    (encDat V c).after 3 t = encPre (encBlk V c 0 t) (encBlk V c 1 t) (encBlk V c 2 t) := by dsimp only [encDat]
theorem enc_after4 (c : Dev nD) (t : Fin cfg0.N) : (encDat V c).after 4 t = encMean (encBlk V c 0 t) := by dsimp only [encDat]
theorem enc_after5 (c : Dev nD) (t : Fin cfg0.N) : (encDat V c).after 5 t = encStd (encBlk V c 0 t) := by dsimp only [encDat]

/-- An input's buffer holds its block whenever the body runs: `x`, -/
theorem enc_before0 (c : Dev nD) (t : Fin cfg0.N) (d) : (encDat V c).before 0 t d = encBlk V c 0 t :=
  ((encDat V c).before_in_eq_fetched 0 rfl (fun _ => rfl) (fun _ _ _ => rfl)
    (fun t => by rw [enc_after0]; unfold Dat.blockOf encBlk; rw [enc_A]) t d).trans
    (by unfold Dat.fetched Dat.blockOf encBlk; rw [enc_A]; rfl)
/-- the matrix, -/
theorem enc_before1 (c : Dev nD) (t : Fin cfg0.N) (d) : (encDat V c).before 1 t d = encBlk V c 1 t :=
  ((encDat V c).before_in_eq_fetched 1 rfl (fun _ => rfl) (fun _ _ _ => rfl)
    (fun t => by rw [enc_after1]; unfold Dat.blockOf encBlk; rw [enc_A]) t d).trans
    (by unfold Dat.fetched Dat.blockOf encBlk; rw [enc_A]; rfl)
/-- and the bias. -/
theorem enc_before2 (c : Dev nD) (t : Fin cfg0.N) (d) : (encDat V c).before 2 t d = encBlk V c 2 t :=
  ((encDat V c).before_in_eq_fetched 2 rfl (fun _ => rfl) (fun _ _ _ => rfl)
    (fun t => by rw [enc_after2]; unfold Dat.blockOf encBlk; rw [enc_A]) t d).trans
    (by unfold Dat.fetched Dat.blockOf encBlk; rw [enc_A]; rfl)

/-- What the encoder's body starts from at point `t`, -/
def encGiven (c : Dev nD) (t : Fin cfg0.N) : sProp 𝕄 :=
  iprop((encDat V c).Φ t.castSucc ∗ (encDat V c).owesAt () t.castSucc
    ∗ (∃ d, owns (c : Thread nD τ) (st0_0 t) fullShare ((encDat V c).before 0 t d))
    ∗ (∃ d, owns (c : Thread nD τ) (st0_1 t) fullShare ((encDat V c).before 1 t d))
    ∗ (∃ d, owns (c : Thread nD τ) (st0_2 t) fullShare ((encDat V c).before 2 t d))
    ∗ (∃ d, owns (c : Thread nD τ) (st0_3 t) fullShare ((encDat V c).before 3 t d))
    ∗ (∃ d, owns (c : Thread nD τ) (st0_4 t) fullShare ((encDat V c).before 4 t d))
    ∗ (∃ d, owns (c : Thread nD τ) (st0_5 t) fullShare ((encDat V c).before 5 t d)))

/-- and what it leaves. -/
def encLeft (c : Dev nD) (t : Fin cfg0.N) : sProp 𝕄 :=
  iprop((encDat V c).Φ t.succ ∗ (encDat V c).owesAt () t.succ
    ∗ owns (c : Thread nD τ) (st0_0 t) fullShare ((encDat V c).after 0 t)
    ∗ owns (c : Thread nD τ) (st0_1 t) fullShare ((encDat V c).after 1 t)
    ∗ owns (c : Thread nD τ) (st0_2 t) fullShare ((encDat V c).after 2 t)
    ∗ owns (c : Thread nD τ) (st0_3 t) fullShare ((encDat V c).after 3 t)
    ∗ owns (c : Thread nD τ) (st0_4 t) fullShare ((encDat V c).after 4 t)
    ∗ owns (c : Thread nD τ) (st0_5 t) fullShare ((encDat V c).after 5 t))

/-- The body at any point. -/
theorem enc_body (c : Dev nD) (t : Fin cfg0.N) :
    encGiven V c t ⊢ wp frame (wpE (defs₀ (F := F)) Variants.none c none) Set.univ (bodyAt0 t) (fun _ => encLeft V c t) := by
  unfold encGiven encLeft bodyAt0
  simp only [enc_before0, enc_before1, enc_before2]
  rw [show (encDat V c).Φ t.succ = (encDat V c).Φ t.castSucc from rfl,
    show (encDat V c).owesAt () t.succ = (encDat V c).owesAt () t.castSucc from rfl,
    enc_after0, enc_after1, enc_after2, enc_after3, enc_after4, enc_after5]
  iintro ⟨HΦ, Ho, ⟨%d0, H0⟩, ⟨%d1, H1⟩, ⟨%d2, H2⟩, ⟨%d3, H3⟩, ⟨%d4, H4⟩, ⟨%d5, H5⟩⟩
  iapply (enc_kernel c Set.univ (grid0.coords t) _ _ _ _ _ _ _ _ _ _ _ _ (encBlk V c 0 t) (encBlk V c 1 t) (encBlk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The table's row for the encoder's body is the body at the point's buffers. -/
theorem enc_row (t : Fin cfg0.N) : defs₀ (F := F) .tc cfg0.body (cfg0.bodyArgs t (cfg0.slots t)) = bodyAt0 t := by
  unfold defs₀; rw [Defs.onTc_tc]

/-- The encoder's body meets its data at every point. -/
theorem enc_obligation (c : Dev nD) : BodyObligation (encDat (F := F) V c) (defs₀ (F := F)) Variants.none () Set.univ := fun t => by
  rw [bigSep_W0, bigSep_W0, enc_row]
  exact triple_restated (enc_body V c t) rfl .rfl fun _ => .rfl

end Cert.KernelIdeal.Sae

end
-- ==== Proof.KernelIdeal.Sel.lean ====
/-
  The selection call on its grid of 32 row tiles.

  Each point takes 128 whole rows of pre-activations and leaves, per row, the threshold its 31 halvings end at.
-/
module

public import proofs.«01_k».proof.Proof.KernelIdeal.Enc
public import proofs.«01_k».proof.Proof.Gen.KernelIdeal.Loops

@[expose] public section

set_option maxRecDepth 16384

noncomputable section

namespace Cert.KernelIdeal.Sae

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- Window `w`'s block of the selection call at point `t`, out of the contents at entry. -/
def selBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev selRp : Rect S128x24576 := Rect.unit (s := S128x24576) ![0, 0] S128x24576.size inb_S128x24576_S128x24576_0_0
abbrev selRt : Rect S128x1 := Rect.unit (s := S128x1) ![0, 0] S128x1.size inb_S128x1_S128x1_0_0

/-- The bounds of the search after all of its halvings, over the rows `p`. -/
def selEnds (p : Vec F S128x24576 .f32) : IVec S128x1 32 × IVec S128x1 32 :=
  Scf.fold (fun (_ : Fin k1_t1_loop.trips) (a : IVec S128x1 32 × IVec S128x1 32) => (k1_pay5 p a.1 a.2, k1_pay6 p a.1 a.2)) (k1_pay1, k1_pay2)

/-- The thresholds a point leaves. -/
def selOut (x0 : Vec F S128x24576 .f32) : Vec F S128x1 .f32 :=
  View.canon [⟨selRt, k1_pay7 (F := F) (selEnds (View.ld x0 selRp)).1⟩]

/-- One store covers a column of thresholds. -/
theorem sel_cover (p : Vec F S128x1 .f32) (y : S128x1.Idx) :
    ∃ pc ∈ ([⟨selRt, p⟩] : List (View.Piece (Elt F) S128x1 .f32)), y ∈ pc.1.set :=
  View.cover_of_tiled [⟨selRt, p⟩] S128x1.size (by rfl) y

set_option maxHeartbeats 1000000 in
/-- The selection's body on whole buffers. -/
theorem sel_kernel (c : Dev nD) (E : Set ℕ) (i : grid1.Coords)
    (a1 : Memref sig .tc .vmem S128x24576 .f32) (h1 : a1.IsWhole) (a2 : Memref sig .tc .vmem S128x1 .f32) (h2 : a2.IsWhole)
    (x0 : Vec F S128x24576 .f32) (K : PUnit → sProp 𝕄) :
    iprop(owns (c : Thread nD τ) a1 fullShare x0 ∗ (∃ d, owns (c : Thread nD τ) a2 fullShare d)
        ∗ (iprop(owns (c : Thread nD τ) a1 fullShare x0 ∗ owns (c : Thread nD τ) a2 fullShare (selOut x0)) -∗ K ⟨⟩))
      ⊢ wp frame (wpE (defs₀ (F := F)) Variants.none c none) E (cc1__sel_body i a1 h1 a2 h2) K := by
  simp only [cc1__sel_body_eq_skeleton]; unfold cc1__sel_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (sel_cover _)

/-- The selection call's data. -/
def selDat (c : Dev nD) : Dat τ (Elt F) Unit ℕ (UR sig nD τ) ℕ cfg1 c where
  A w := V c (Pipeline.arrRef spec1 w)
  after w t := match w with
    | ⟨0, _⟩ => selBlk V c 0 t
    | ⟨1, _⟩ => selOut (selBlk V c 0 t)
  Φ _ := Pipeline.ΦA spec1 c
  q _ := fullShare
  owed _ := 0

theorem sel_A (c : Dev nD) (w : Fin cfg1.W) : (selDat V c).A w = V c (Pipeline.arrRef spec1 w) := by
  dsimp only [selDat]

theorem sel_after0 (c : Dev nD) (t : Fin cfg1.N) : (selDat V c).after 0 t = selBlk V c 0 t := by dsimp only [selDat]
theorem sel_after1 (c : Dev nD) (t : Fin cfg1.N) : (selDat V c).after 1 t = selOut (selBlk V c 0 t) := by dsimp only [selDat]

/-- The rows' buffer holds its block whenever the body runs. -/
theorem sel_before0 (c : Dev nD) (t : Fin cfg1.N) (d) : (selDat V c).before 0 t d = selBlk V c 0 t :=
  ((selDat V c).before_in_eq_fetched 0 rfl (fun _ => rfl) (fun _ _ _ => rfl)
    (fun t => by rw [sel_after0]; unfold Dat.blockOf selBlk; rw [sel_A]) t d).trans
    (by unfold Dat.fetched Dat.blockOf selBlk; rw [sel_A]; rfl)

/-- What the selection's body starts from at point `t`, -/
def selGiven (c : Dev nD) (t : Fin cfg1.N) : sProp 𝕄 :=
  iprop((selDat V c).Φ t.castSucc ∗ (selDat V c).owesAt () t.castSucc
    ∗ (∃ d, owns (c : Thread nD τ) (st1_0 t) fullShare ((selDat V c).before 0 t d))
    ∗ (∃ d, owns (c : Thread nD τ) (st1_1 t) fullShare ((selDat V c).before 1 t d)))

/-- and what it leaves. -/
def selLeft (c : Dev nD) (t : Fin cfg1.N) : sProp 𝕄 :=
  iprop((selDat V c).Φ t.succ ∗ (selDat V c).owesAt () t.succ
    ∗ owns (c : Thread nD τ) (st1_0 t) fullShare ((selDat V c).after 0 t)
    ∗ owns (c : Thread nD τ) (st1_1 t) fullShare ((selDat V c).after 1 t))

/-- The body at any point. -/
theorem sel_body (c : Dev nD) (t : Fin cfg1.N) :
    selGiven V c t ⊢ wp frame (wpE (defs₀ (F := F)) Variants.none c none) Set.univ (bodyAt1 t) (fun _ => selLeft V c t) := by
  unfold selGiven selLeft bodyAt1
  simp only [sel_before0]
  rw [show (selDat V c).Φ t.succ = (selDat V c).Φ t.castSucc from rfl,
    show (selDat V c).owesAt () t.succ = (selDat V c).owesAt () t.castSucc from rfl,
    sel_after0, sel_after1]
  iintro ⟨HΦ, Ho, ⟨%d0, H0⟩, ⟨%d1, H1⟩⟩
  iapply (sel_kernel c Set.univ (grid1.coords t) _ _ _ _ (selBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The table's row for the selection's body is the body at the point's buffers. -/
theorem sel_row (t : Fin cfg1.N) : defs₀ (F := F) .tc cfg1.body (cfg1.bodyArgs t (cfg1.slots t)) = bodyAt1 t := by
  unfold defs₀; rw [Defs.onTc_tc]

/-- The selection's body meets its data at every point. -/
theorem sel_obligation (c : Dev nD) : BodyObligation (selDat (F := F) V c) (defs₀ (F := F)) Variants.none () Set.univ := fun t => by
  rw [bigSep_W1, bigSep_W1, sel_row]
  exact triple_restated (sel_body V c t) rfl .rfl fun _ => .rfl

end Cert.KernelIdeal.Sae

end
-- ==== Proof.KernelIdeal.Dec.lean ====
/-
  The decoder call on its grid of 8 row tiles by 12 steps.

  The step's block of latents times its block of the decoder's matrix is stored at the first step of a row tile, added to
  what the buffer holds at the later ones; the last step then adds the bias, multiplies by the deviation and adds the mean.
-/
module

public import proofs.«01_k».proof.Proof.KernelIdeal.Enc
public import Idealize.ShloMosaic.Lib.Pipeline.TableIdle
public import Idealize.ShloMosaic.Lib.Pipeline.ValueKit
public import Idealize.ShloMosaic.Lib.VecWindow

@[expose] public section

set_option maxRecDepth 16384

noncomputable section

namespace Cert.KernelIdeal.Sae

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first step of a row tile leaves its product, whatever the buffer held. -/
theorem dec_first (c : Dev nD) (E : Set ℕ) (i : grid2.Coords)
    (a2 : Memref sig .tc .vmem S512x2048 .f32) (h2 : a2.IsWhole) (a3 : Memref sig .tc .vmem S2048x768 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S1x768 .f32) (h7 : a7.IsWhole) (a8 : Memref sig .tc .vmem S512x768 .f32) (h8 : a8.IsWhole)
    (hc0 : k2_cond1 i = 1#1) (hc1 : ¬k2_cond2 i = 1#1) (hc2 : ¬k2_cond3 i = 1#1)
    (x0 : Vec F S512x2048 .f32) (x1 : Vec F S2048x768 .f32) (x2 : Vec F S512x1 .f32) (x3 : Vec F S512x1 .f32) (x4 : Vec F S512x1 .f32) (x5 : Vec F S1x768 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ owns (c : Thread nD τ) a8 fullShare (k2_pay1 x0 x2 x1)) -∗ K ⟨⟩))
      ⊢ wp frame (wpE (defs₀ (F := F)) Variants.none c none) E (cc2__dec_body i a2 h2 a3 h3 a4 h4 a5 h5 a6 h6 a7 h7 a8 h8) K := by
  simp only [cc2__dec_body_eq_skeleton]; unfold cc2__dec_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5
  sl_exec (disch := first | sl_exact hc0 | sl_exact hc1 | sl_exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  iexists _; isplitr
  swap; · iexact H6
  ipureintro
  refine (View.read_writes_full _ _ _ _ _).trans ?_
  frame_out

set_option maxHeartbeats 1000000 in
/-- A step between adds its product to what the buffer holds. -/
theorem dec_mid (c : Dev nD) (E : Set ℕ) (i : grid2.Coords)
    (a2 : Memref sig .tc .vmem S512x2048 .f32) (h2 : a2.IsWhole) (a3 : Memref sig .tc .vmem S2048x768 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S1x768 .f32) (h7 : a7.IsWhole) (a8 : Memref sig .tc .vmem S512x768 .f32) (h8 : a8.IsWhole)
    (hc0 : ¬k2_cond1 i = 1#1) (hc1 : k2_cond2 i = 1#1) (hc2 : ¬k2_cond3 i = 1#1)
    (x0 : Vec F S512x2048 .f32) (x1 : Vec F S2048x768 .f32) (x2 : Vec F S512x1 .f32) (x3 : Vec F S512x1 .f32) (x4 : Vec F S512x1 .f32) (x5 : Vec F S1x768 .f32) (acc : Vec F S512x768 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare acc
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ owns (c : Thread nD τ) a8 fullShare (k2_pay2 x0 x2 x1 acc)) -∗ K ⟨⟩))
      ⊢ wp frame (wpE (defs₀ (F := F)) Variants.none c none) E (cc2__dec_body i a2 h2 a3 h3 a4 h4 a5 h5 a6 h6 a7 h7 a8 h8) K := by
  simp only [cc2__dec_body_eq_skeleton]; unfold cc2__dec_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
  sl_exec (disch := first | sl_exact hc0 | sl_exact hc1 | sl_exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  iexists _; isplitr
  swap; · iexact H6
  ipureintro
  refine (View.read_writes_full _ _ _ _ _).trans ?_
  frame_out

set_option maxHeartbeats 1000000 in
/-- The last step adds its product, then the bias, scales by the deviation and adds the mean. -/
theorem dec_last (c : Dev nD) (E : Set ℕ) (i : grid2.Coords)
    (a2 : Memref sig .tc .vmem S512x2048 .f32) (h2 : a2.IsWhole) (a3 : Memref sig .tc .vmem S2048x768 .f32) (h3 : a3.IsWhole) (a4 : Memref sig .tc .vmem S512x1 .f32) (h4 : a4.IsWhole) (a5 : Memref sig .tc .vmem S512x1 .f32) (h5 : a5.IsWhole) (a6 : Memref sig .tc .vmem S512x1 .f32) (h6 : a6.IsWhole) (a7 : Memref sig .tc .vmem S1x768 .f32) (h7 : a7.IsWhole) (a8 : Memref sig .tc .vmem S512x768 .f32) (h8 : a8.IsWhole)
    (hc0 : ¬k2_cond1 i = 1#1) (hc1 : k2_cond2 i = 1#1) (hc2 : k2_cond3 i = 1#1)
    (x0 : Vec F S512x2048 .f32) (x1 : Vec F S2048x768 .f32) (x2 : Vec F S512x1 .f32) (x3 : Vec F S512x1 .f32) (x4 : Vec F S512x1 .f32) (x5 : Vec F S1x768 .f32) (acc : Vec F S512x768 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare acc
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5
            ∗ owns (c : Thread nD τ) a8 fullShare (k2_pay3 (k2_pay2 x0 x2 x1 acc) x5 x4 x3)) -∗ K ⟨⟩))
      ⊢ wp frame (wpE (defs₀ (F := F)) Variants.none c none) E (cc2__dec_body i a2 h2 a3 h3 a4 h4 a5 h5 a6 h6 a7 h7 a8 h8) K := by
  simp only [cc2__dec_body_eq_skeleton]; unfold cc2__dec_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6
  sl_exec (disch := first | sl_exact hc0 | sl_exact hc1 | sl_exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  iexists _; isplitr
  swap; · iexact H6
  ipureintro
  refine (View.read_writes_full _ _ _ _ _).trans ?_
  frame_out

variable (V : Entry F)

/-- Window `w`'s block of the decoder call at point `t`, out of the contents at entry. -/
def decBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first branch is taken at the first step of a row tile, -/
theorem dec_cond1 : ∀ t : Fin cfg2.N, k2_cond1 (grid2.coords t) = 1#1 ↔ t.val % 12 = 0 :=
  (by decide +kernel : ∀ t : Fin grid2.N, k2_cond1 (grid2.coords t) = 1#1 ↔ t.val % 12 = 0)
/-- the second at every other, -/
theorem dec_cond2 : ∀ t : Fin cfg2.N, k2_cond2 (grid2.coords t) = 1#1 ↔ ¬t.val % 12 = 0 :=
  (by decide +kernel : ∀ t : Fin grid2.N, k2_cond2 (grid2.coords t) = 1#1 ↔ ¬t.val % 12 = 0)
/-- the third at the last. -/
theorem dec_cond3 : ∀ t : Fin cfg2.N, k2_cond3 (grid2.coords t) = 1#1 ↔ t.val % 12 = 11 :=
  (by decide +kernel : ∀ t : Fin grid2.N, k2_cond3 (grid2.coords t) = 1#1 ↔ t.val % 12 = 11)

/-- What step `t` leaves when the buffer holds `acc`. -/
def decStep (c : Dev nD) (t : Fin cfg2.N) (acc : Vec F S512x768 .f32) : Vec F S512x768 .f32 :=
  if t.val % 12 = 0 then k2_pay1 (decBlk V c 0 t) (decBlk V c 2 t) (decBlk V c 1 t)
  else if t.val % 12 = 11 then
    k2_pay3 (k2_pay2 (decBlk V c 0 t) (decBlk V c 2 t) (decBlk V c 1 t) acc) (decBlk V c 5 t) (decBlk V c 4 t) (decBlk V c 3 t)
  else k2_pay2 (decBlk V c 0 t) (decBlk V c 2 t) (decBlk V c 1 t) acc

/-- What the output's buffer holds after point `n`: each point's step over what the point before left. -/
def decAcc (c : Dev nD) : (n : ℕ) → n < cfg2.N → Vec F S512x768 .f32
  | 0, hn => k2_pay1 (decBlk V c 0 ⟨0, hn⟩) (decBlk V c 2 ⟨0, hn⟩) (decBlk V c 1 ⟨0, hn⟩)
  | n + 1, hn => decStep V c ⟨n + 1, hn⟩ (decAcc c n (Nat.lt_of_succ_lt hn))

/-- At the first step of a row tile. -/
theorem decAcc_first (c : Dev nD) (t : Fin cfg2.N) (h : t.val % 12 = 0) :
    decAcc V c t.val t.isLt = k2_pay1 (decBlk V c 0 t) (decBlk V c 2 t) (decBlk V c 1 t) := by
  obtain ⟨n, hn⟩ := t
  cases n with
  | zero => rfl
  | succ n => exact if_pos h

/-- At a step between. -/
theorem decAcc_mid (c : Dev nD) (t : Fin cfg2.N) (h : ¬t.val % 12 = 0) (h' : ¬t.val % 12 = 11) :
    decAcc V c t.val t.isLt = k2_pay2 (decBlk V c 0 t) (decBlk V c 2 t) (decBlk V c 1 t)
      (decAcc V c (t.val - 1) (Nat.lt_of_le_of_lt (Nat.sub_le _ _) t.isLt)) := by
  obtain ⟨n, hn⟩ := t
  cases n with
  | zero => exact absurd (Nat.zero_mod _) h
  | succ n => exact (if_neg h).trans (if_neg h')

/-- At the last step. -/
theorem decAcc_last (c : Dev nD) (t : Fin cfg2.N) (h : t.val % 12 = 11) :
    decAcc V c t.val t.isLt = k2_pay3 (k2_pay2 (decBlk V c 0 t) (decBlk V c 2 t) (decBlk V c 1 t)
      (decAcc V c (t.val - 1) (Nat.lt_of_le_of_lt (Nat.sub_le _ _) t.isLt))) (decBlk V c 5 t) (decBlk V c 4 t) (decBlk V c 3 t) := by
  obtain ⟨n, hn⟩ := t
  cases n with
  | zero => exact absurd h (by simp)
  | succ n => exact (if_neg (by rw [h]; decide)).trans (if_pos h)

/-- The decoder call's data. -/
def decDat (c : Dev nD) : Dat τ (Elt F) Unit ℕ (UR sig nD τ) ℕ cfg2 c where
  A w := V c (Pipeline.arrRef spec2 w)
  after w t := match w with
    | ⟨0, _⟩ => decBlk V c 0 t
    | ⟨1, _⟩ => decBlk V c 1 t
    | ⟨2, _⟩ => decBlk V c 2 t
    | ⟨3, _⟩ => decBlk V c 3 t
    | ⟨4, _⟩ => decBlk V c 4 t
    | ⟨5, _⟩ => decBlk V c 5 t
    | ⟨6, _⟩ => decAcc V c t.val t.isLt
  Φ _ := Pipeline.ΦA spec2 c
  q _ := fullShare
  owed _ := 0

theorem dec_A (c : Dev nD) (w : Fin cfg2.W) : (decDat V c).A w = V c (Pipeline.arrRef spec2 w) := by
  dsimp only [decDat]

theorem dec_after0 (c : Dev nD) (t : Fin cfg2.N) : (decDat V c).after 0 t = decBlk V c 0 t := by dsimp only [decDat]
theorem dec_after1 (c : Dev nD) (t : Fin cfg2.N) : (decDat V c).after 1 t = decBlk V c 1 t := by dsimp only [decDat]
theorem dec_after2 (c : Dev nD) (t : Fin cfg2.N) : (decDat V c).after 2 t = decBlk V c 2 t := by dsimp only [decDat]
theorem dec_after3 (c : Dev nD) (t : Fin cfg2.N) : (decDat V c).after 3 t = decBlk V c 3 t := by dsimp only [decDat]
theorem dec_after4 (c : Dev nD) (t : Fin cfg2.N) : (decDat V c).after 4 t = decBlk V c 4 t := by dsimp only [decDat]
theorem dec_after5 (c : Dev nD) (t : Fin cfg2.N) : (decDat V c).after 5 t = decBlk V c 5 t := by dsimp only [decDat]
theorem dec_after6 (c : Dev nD) (t : Fin cfg2.N) : (decDat V c).after 6 t = decAcc V c t.val t.isLt := by dsimp only [decDat]

/-- The latents' rows: the buffer holds the block whenever the body runs. -/
theorem dec_before0 (c : Dev nD) (t : Fin cfg2.N) (d) : (decDat V c).before 0 t d = decBlk V c 0 t :=
  ((decDat V c).before_in_eq_fetched 0 rfl (fun _ => rfl) (fun _ _ _ => rfl)
    (fun t => by rw [dec_after0]; unfold Dat.blockOf decBlk; rw [dec_A]) t d).trans
    (by unfold Dat.fetched Dat.blockOf decBlk; rw [dec_A]; rfl)
/-- The matrix's rows: the buffer holds the block whenever the body runs. -/
theorem dec_before1 (c : Dev nD) (t : Fin cfg2.N) (d) : (decDat V c).before 1 t d = decBlk V c 1 t :=
  ((decDat V c).before_in_eq_fetched 1 rfl (fun _ => rfl) (fun _ _ _ => rfl)
    (fun t => by rw [dec_after1]; unfold Dat.blockOf decBlk; rw [dec_A]) t d).trans
    (by unfold Dat.fetched Dat.blockOf decBlk; rw [dec_A]; rfl)
/-- The thresholds: the buffer holds the block whenever the body runs. -/
theorem dec_before2 (c : Dev nD) (t : Fin cfg2.N) (d) : (decDat V c).before 2 t d = decBlk V c 2 t :=
  ((decDat V c).before_in_eq_fetched 2 rfl (fun _ => rfl) (fun _ _ _ => rfl)
    (fun t => by rw [dec_after2]; unfold Dat.blockOf decBlk; rw [dec_A]) t d).trans
    (by unfold Dat.fetched Dat.blockOf decBlk; rw [dec_A]; rfl)
/-- The means: the buffer holds the block whenever the body runs. -/
theorem dec_before3 (c : Dev nD) (t : Fin cfg2.N) (d) : (decDat V c).before 3 t d = decBlk V c 3 t :=
  ((decDat V c).before_in_eq_fetched 3 rfl (fun _ => rfl) (fun _ _ _ => rfl)
    (fun t => by rw [dec_after3]; unfold Dat.blockOf decBlk; rw [dec_A]) t d).trans
    (by unfold Dat.fetched Dat.blockOf decBlk; rw [dec_A]; rfl)
/-- The deviations: the buffer holds the block whenever the body runs. -/
theorem dec_before4 (c : Dev nD) (t : Fin cfg2.N) (d) : (decDat V c).before 4 t d = decBlk V c 4 t :=
  ((decDat V c).before_in_eq_fetched 4 rfl (fun _ => rfl) (fun _ _ _ => rfl)
    (fun t => by rw [dec_after4]; unfold Dat.blockOf decBlk; rw [dec_A]) t d).trans
    (by unfold Dat.fetched Dat.blockOf decBlk; rw [dec_A]; rfl)
/-- The bias: the buffer holds the block whenever the body runs. -/
theorem dec_before5 (c : Dev nD) (t : Fin cfg2.N) (d) : (decDat V c).before 5 t d = decBlk V c 5 t :=
  ((decDat V c).before_in_eq_fetched 5 rfl (fun _ => rfl) (fun _ _ _ => rfl)
    (fun t => by rw [dec_after5]; unfold Dat.blockOf decBlk; rw [dec_A]) t d).trans
    (by unfold Dat.fetched Dat.blockOf decBlk; rw [dec_A]; rfl)

/-- The output's window is live at every point. -/
theorem dec_live6 : ∀ t : Fin cfg2.N, cfg2.idle 6 (grid2.coords t) = false := by decide +kernel

/-- Whether the output's buffer holds nothing of its row tile yet at point `n`: so at the first step of a tile. -/
def decFresh (n : ℕ) : Bool := n % 12 == 0

theorem decFresh_step : ∀ t : Fin cfg2.N,
    decFresh (t.val + 1) = ((cfg2.win 6).flush t || (cfg2.idle 6 (cfg2.grid.coords t) && decFresh t.val)) := by decide +kernel

theorem dec_fresh (t : Fin cfg2.N) : cfg2.fresh 6 t.val = decFresh t.val :=
  Pipeline.Cfg.fresh_tab cfg2 6 decFresh rfl decFresh_step t.val (Nat.le_of_lt t.isLt)

/-- Past the first step of a row tile the output's buffer holds what the point before left. -/
theorem dec_before6 (c : Dev nD) (t : Fin cfg2.N) (h : ¬t.val % 12 = 0) (d) :
    (decDat V c).before 6 t d = decAcc V c (t.val - 1) (Nat.lt_of_le_of_lt (Nat.sub_le _ _) t.isLt) := by
  rw [Dat.before_out_traj _ 6 rfl (fun _ _ => rfl)
      (fun t _ hi _ => by rw [dec_live6 t] at hi; exact absurd hi Bool.false_ne_true) t.val t rfl d,
    if_neg (by rw [dec_fresh t]; simpa [decFresh] using h)]
  dsimp only [decDat]

/-- What the decoder's body starts from at point `t`, -/
def decGiven (c : Dev nD) (t : Fin cfg2.N) : sProp 𝕄 :=
  iprop((decDat V c).Φ t.castSucc ∗ (decDat V c).owesAt () t.castSucc
    ∗ (∃ d, owns (c : Thread nD τ) (st2_0 t) fullShare ((decDat V c).before 0 t d))
    ∗ (∃ d, owns (c : Thread nD τ) (st2_1 t) fullShare ((decDat V c).before 1 t d))
    ∗ (∃ d, owns (c : Thread nD τ) (st2_2 t) fullShare ((decDat V c).before 2 t d))
    ∗ (∃ d, owns (c : Thread nD τ) (st2_3 t) fullShare ((decDat V c).before 3 t d))
    ∗ (∃ d, owns (c : Thread nD τ) (st2_4 t) fullShare ((decDat V c).before 4 t d))
    ∗ (∃ d, owns (c : Thread nD τ) (st2_5 t) fullShare ((decDat V c).before 5 t d))
    ∗ (∃ d, owns (c : Thread nD τ) (st2_6 t) fullShare ((decDat V c).before 6 t d)))

/-- At a live point a window's obligation is to hold what the data says. -/
theorem dec_leaves6 (c : Dev nD) (t : Fin cfg2.N) :
    (decDat V c).leavesExact 6 t = owns (c : Thread nD τ) (st2_6 t) fullShare ((decDat V c).after 6 t) := by
  unfold Dat.leavesExact; rw [dec_live6 t]

/-- and what it leaves. -/
def decLeft (c : Dev nD) (t : Fin cfg2.N) : sProp 𝕄 :=
  iprop((decDat V c).Φ t.succ ∗ (decDat V c).owesAt () t.succ
    ∗ owns (c : Thread nD τ) (st2_0 t) fullShare ((decDat V c).after 0 t)
    ∗ owns (c : Thread nD τ) (st2_1 t) fullShare ((decDat V c).after 1 t)
    ∗ owns (c : Thread nD τ) (st2_2 t) fullShare ((decDat V c).after 2 t)
    ∗ owns (c : Thread nD τ) (st2_3 t) fullShare ((decDat V c).after 3 t)
    ∗ owns (c : Thread nD τ) (st2_4 t) fullShare ((decDat V c).after 4 t)
    ∗ owns (c : Thread nD τ) (st2_5 t) fullShare ((decDat V c).after 5 t)
    ∗ (decDat V c).leavesExact 6 t)

set_option maxHeartbeats 1000000 in
/-- The body at any point. -/
theorem dec_body (c : Dev nD) (t : Fin cfg2.N) :
    decGiven V c t ⊢ wp frame (wpE (defs₀ (F := F)) Variants.none c none) Set.univ (bodyAt2 t) (fun _ => decLeft V c t) := by
  unfold decGiven decLeft bodyAt2
  simp only [dec_before0, dec_before1, dec_before2, dec_before3, dec_before4, dec_before5]
  rw [show (decDat V c).Φ t.succ = (decDat V c).Φ t.castSucc from rfl,
    show (decDat V c).owesAt () t.succ = (decDat V c).owesAt () t.castSucc from rfl,
    dec_after0, dec_after1, dec_after2, dec_after3, dec_after4, dec_after5, dec_leaves6, dec_after6]
  by_cases h0 : t.val % 12 = 0
  · rw [decAcc_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (dec_first c Set.univ (grid2.coords t) _ _ _ _ _ _ _ _ _ _ _ _ _ _ ((dec_cond1 t).mpr h0) (fun h => (dec_cond2 t).mp h h0) (fun h => by have := (dec_cond3 t).mp h; omega) (decBlk V c 0 t) (decBlk V c 1 t) (decBlk V c 2 t) (decBlk V c 3 t) (decBlk V c 4 t) (decBlk V c 5 t)  _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [dec_before6 V c t h0]
    by_cases h1 : t.val % 12 = 11
    · rw [decAcc_last V c t h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (dec_last c Set.univ (grid2.coords t) _ _ _ _ _ _ _ _ _ _ _ _ _ _ (fun h => h0 ((dec_cond1 t).mp h)) ((dec_cond2 t).mpr h0) ((dec_cond3 t).mpr h1) (decBlk V c 0 t) (decBlk V c 1 t) (decBlk V c 2 t) (decBlk V c 3 t) (decBlk V c 4 t) (decBlk V c 5 t) (decAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [decAcc_mid V c t h0 h1]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (dec_mid c Set.univ (grid2.coords t) _ _ _ _ _ _ _ _ _ _ _ _ _ _ (fun h => h0 ((dec_cond1 t).mp h)) ((dec_cond2 t).mpr h0) (fun h => h1 ((dec_cond3 t).mp h)) (decBlk V c 0 t) (decBlk V c 1 t) (decBlk V c 2 t) (decBlk V c 3 t) (decBlk V c 4 t) (decBlk V c 5 t) (decAcc V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The table's row for the decoder's body is the body at the point's buffers. -/
theorem dec_row (t : Fin cfg2.N) : defs₀ (F := F) .tc cfg2.body (cfg2.bodyArgs t (cfg2.slots t)) = bodyAt2 t := by
  unfold defs₀; rw [Defs.onTc_tc]

/-- The decoder's body meets its data at every point. -/
theorem dec_obligation (c : Dev nD) : BodyObligation (decDat (F := F) V c) (defs₀ (F := F)) Variants.none () Set.univ := fun t => by
  rw [bigSep_W2, bigSep_W2, dec_row]
  exact triple_restated (dec_body V c t) rfl .rfl fun _ => .rfl

end Cert.KernelIdeal.Sae

end
-- ==== Proof.KernelIdeal.Run.lean ====
/-
  The three calls in order: what every buffer holds between them, and the run of the whole program.
-/
module

public import proofs.«01_k».proof.Proof.KernelIdeal.Sel
public import proofs.«01_k».proof.Proof.KernelIdeal.Dec
public import proofs.«01_k».proof.Proof.Gen.KernelIdeal.Regions
public import Idealize.ShloMosaic.Lib.Pipeline.FrameSuffix
public import Idealize.ShloMosaic.Lib.Pipeline.RegionsLoop

@[expose] public section

set_option maxRecDepth 16384

noncomputable section

namespace Cert.KernelIdeal.Sae

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The program's arguments. -/
abbrev args : List (Ref sig .tc) := [main_arg0, main_arg1, main_arg2, main_arg3, main_arg4]

/-- A valuation of all buffers read at the core's own. -/
abbrev refs (W : Dev nD → Valuation τ sig (Elt F)) : Entry F := fun c b => W c b

/-- Every buffer at launch. -/
abbrev atLaunch : Dev nD → Valuation τ sig (Elt F) := fun c b => m ((c : Dev nD), b)
theorem atLaunch_args (c : Dev nD) : ∀ a ∈ args, atLaunch m c (Proc.devRef .tc a) = m ((c : Thread nD τ).loc a) := fun _ _ => rfl

/-- Every buffer once the two biases are laid out as rows. -/
abbrev atEnc : Dev nD → Valuation τ sig (Elt F) := fun c => StableHlo.after hostOps0 (atLaunch m c)
theorem atEnc_keeps (c : Dev nD) (r : Ref sig .tc) (h : r ∉ hostOps0_W) :
    atEnc m c (Proc.devRef .tc r) = atLaunch m c (Proc.devRef .tc r) :=
  StableHlo.after_of_writes_sub hostOps0 _ hostOps0_writes h
theorem atEnc_args (c : Dev nD) : ∀ a ∈ args, atEnc m c (Proc.devRef .tc a) = m ((c : Thread nD τ).loc a) :=
  fun a ha => (atEnc_keeps m c a ((ListAll.forall_mem_of_all_decide (by decide +kernel) : ∀ a ∈ args, a ∉ hostOps0_W) a ha)).trans
    (atLaunch_args m c a ha)

/-- Every buffer after the encoder call. -/
def atSel (c : Dev nD) : Valuation τ sig (Elt F) :=
  Pipeline.withArrays spec0 c (atEnc m c) fun w => (encDat (refs (atEnc m)) c).arrAt w cfg0.N
theorem atSel_arr (c : Dev nD) (w : Fin cfg0.W) :
    atSel m c (Proc.devRef .tc (Pipeline.arrRef spec0 w)) = (encDat (refs (atEnc m)) c).arrAt w cfg0.N := by
  unfold atSel; exact Pipeline.withArrays_arr spec0 launch0.win.arr_inj c _ _ w
theorem atSel_ne (c : Dev nD) (b : Ref sig .tc) (hb : ∀ w, Pipeline.arrRef spec0 w ≠ b) :
    atSel m c (Proc.devRef .tc b) = atEnc m c (Proc.devRef .tc b) := by
  unfold atSel; exact Pipeline.withArrays_of_ne spec0 c _ _ b hb
/-- A buffer the call writes nothing back to is as before. -/
theorem atSel_keeps (c : Dev nD) (r : Ref sig .tc) (h : ∀ w : Fin cfg0.W, Pipeline.arrRef spec0 w = r → (cfg0.win w).isOut = false) :
    atSel m c (Proc.devRef .tc r) = atEnc m c (Proc.devRef .tc r) := by
  by_cases hw : ∃ w : Fin cfg0.W, Pipeline.arrRef spec0 w = r
  · obtain ⟨w, rfl⟩ := hw
    exact (atSel_arr m c w).trans (((encDat (refs (atEnc m)) c).arrAt_in w (h w rfl) _).trans (enc_A (refs (atEnc m)) c w))
  · exact atSel_ne m c r fun w e => hw ⟨w, e⟩
theorem atSel_args (c : Dev nD) : ∀ a ∈ args, atSel m c (Proc.devRef .tc a) = m ((c : Thread nD τ).loc a) :=
  fun a ha => (atSel_keeps m c a ((ListAll.forall_mem_of_all_decide (by decide +kernel) :
    ∀ a ∈ args, ∀ w : Fin cfg0.W, Pipeline.arrRef spec0 w = a → (cfg0.win w).isOut = false) a ha)).trans (atEnc_args m c a ha)

/-- Every buffer after the selection call. -/
def atDec (c : Dev nD) : Valuation τ sig (Elt F) :=
  Pipeline.withArrays spec1 c (atSel m c) fun w => (selDat (refs (atSel m)) c).arrAt w cfg1.N
theorem atDec_arr (c : Dev nD) (w : Fin cfg1.W) :
    atDec m c (Proc.devRef .tc (Pipeline.arrRef spec1 w)) = (selDat (refs (atSel m)) c).arrAt w cfg1.N := by
  unfold atDec; exact Pipeline.withArrays_arr spec1 launch1.win.arr_inj c _ _ w
theorem atDec_ne (c : Dev nD) (b : Ref sig .tc) (hb : ∀ w, Pipeline.arrRef spec1 w ≠ b) :
    atDec m c (Proc.devRef .tc b) = atSel m c (Proc.devRef .tc b) := by
  unfold atDec; exact Pipeline.withArrays_of_ne spec1 c _ _ b hb
/-- A buffer the call writes nothing back to is as before. -/
theorem atDec_keeps (c : Dev nD) (r : Ref sig .tc) (h : ∀ w : Fin cfg1.W, Pipeline.arrRef spec1 w = r → (cfg1.win w).isOut = false) :
    atDec m c (Proc.devRef .tc r) = atSel m c (Proc.devRef .tc r) := by
  by_cases hw : ∃ w : Fin cfg1.W, Pipeline.arrRef spec1 w = r
  · obtain ⟨w, rfl⟩ := hw
    exact (atDec_arr m c w).trans (((selDat (refs (atSel m)) c).arrAt_in w (h w rfl) _).trans (sel_A (refs (atSel m)) c w))
  · exact atDec_ne m c r fun w e => hw ⟨w, e⟩
theorem atDec_args (c : Dev nD) : ∀ a ∈ args, atDec m c (Proc.devRef .tc a) = m ((c : Thread nD τ).loc a) :=
  fun a ha => (atDec_keeps m c a ((ListAll.forall_mem_of_all_decide (by decide +kernel) :
    ∀ a ∈ args, ∀ w : Fin cfg1.W, Pipeline.arrRef spec1 w = a → (cfg1.win w).isOut = false) a ha)).trans (atSel_args m c a ha)

/-- Every buffer after the decoder call. -/
def atEnd (c : Dev nD) : Valuation τ sig (Elt F) :=
  Pipeline.withArrays spec2 c (atDec m c) fun w => (decDat (refs (atDec m)) c).arrAt w cfg2.N
theorem atEnd_arr (c : Dev nD) (w : Fin cfg2.W) :
    atEnd m c (Proc.devRef .tc (Pipeline.arrRef spec2 w)) = (decDat (refs (atDec m)) c).arrAt w cfg2.N := by
  unfold atEnd; exact Pipeline.withArrays_arr spec2 launch2.win.arr_inj c _ _ w
theorem atEnd_ne (c : Dev nD) (b : Ref sig .tc) (hb : ∀ w, Pipeline.arrRef spec2 w ≠ b) :
    atEnd m c (Proc.devRef .tc b) = atDec m c (Proc.devRef .tc b) := by
  unfold atEnd; exact Pipeline.withArrays_of_ne spec2 c _ _ b hb
/-- A buffer the call writes nothing back to is as before. -/
theorem atEnd_keeps (c : Dev nD) (r : Ref sig .tc) (h : ∀ w : Fin cfg2.W, Pipeline.arrRef spec2 w = r → (cfg2.win w).isOut = false) :
    atEnd m c (Proc.devRef .tc r) = atDec m c (Proc.devRef .tc r) := by
  by_cases hw : ∃ w : Fin cfg2.W, Pipeline.arrRef spec2 w = r
  · obtain ⟨w, rfl⟩ := hw
    exact (atEnd_arr m c w).trans (((decDat (refs (atDec m)) c).arrAt_in w (h w rfl) _).trans (dec_A (refs (atDec m)) c w))
  · exact atEnd_ne m c r fun w e => hw ⟨w, e⟩
theorem atEnd_args (c : Dev nD) : ∀ a ∈ args, atEnd m c (Proc.devRef .tc a) = m ((c : Thread nD τ).loc a) :=
  fun a ha => (atEnd_keeps m c a ((ListAll.forall_mem_of_all_decide (by decide +kernel) :
    ∀ a ∈ args, ∀ w : Fin cfg2.W, Pipeline.arrRef spec2 w = a → (cfg2.win w).isOut = false) a ha)).trans (atDec_args m c a ha)

/-- The three calls' data, each at the contents its call is entered with. -/
def allDats : (p : Fin 3) → (c : Dev nD) → Dat τ (Elt F) Unit ℕ (UR sig nD τ) ℕ (Pipeline.pin (pcfgs (F := F)) adm p) c
  | ⟨0, _⟩ => fun c => encDat (refs (atEnc m)) c
  | ⟨1, _⟩ => fun c => selDat (refs (atSel m)) c
  | ⟨2, _⟩ => fun c => decDat (refs (atDec m)) c

/-- What rides beside the buffers: the generator's register, and that the core owes nothing. -/
abbrev rides (c : Dev nD) : sProp 𝕄 := iprop((∃ r, prngReg c r) ∗ ∃ W, owes (c : Thread nD τ) (0 : CellTallies nD τ sig Unit) W)

/-- The layout of the biases as a segment. -/
abbrev hostSeg : Pipeline.HostSeg (Name := ℕ) (U := UR sig nD τ) (pcfgs (F := F)) defs₀ Variants.none (fun _ => (∅ : Finset Unit)) (fun _ _ => (0 : ℕ)) :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m) rides

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The encoder call as a segment. -/
def encSeg : Pipeline.RegionSeg (pcfgs (F := F)) adm (allDats m) () defs₀ Variants.none (fun _ => ∅) (fun _ _ => (0 : ℕ)) 0 where
  win := launch0.win.to₀
  block_pos := launch0.block_pos
  stage_whole := launch0.stage_whole
  K := PEmpty
  osem k := k.elim
  ho := Pipeline.OwnSemFacts.none _
  hbody c := (enc_obligation (refs (atEnc m)) c).loose
  hwaits := Pipeline.hwaits_of_owed_zero _ _ _ _ (fun _ => ∅) (fun _ _ => (0 : ℕ)) 0 fun _ _ => rfl
  pre c := iprop(held (c : Thread nD τ) (Pipeline.ucRefs τ sig) (atEnc m c) ∗ rides c)
  post c := iprop(held (c : Thread nD τ) (Pipeline.ucRefs τ sig) (atSel m c) ∗ rides c)
  X c := iprop(∃ r, prngReg c r)
  Y c := iprop(∃ r, prngReg c r)
  Z c := Pipeline.unscopedRest (Ix := Unit) (Name := ℕ) (U := UR sig nD τ) (Lvl := ℕ) spec0 c (refs (atEnc m) c)
  hentry c := by
    rw [Pipeline.ownSems0_none]
    have hsplit := Pipeline.arrays_of_unscopedBufs (p := 0) (pcfgs (F := F)) adm (allDats m) launch0.win launch0.arr_whole c
      ((allDats m 0 c).share_full fun _ => rfl) (refs (atEnc m) c) (enc_A (refs (atEnc m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allDats m) ((allDats m 0 c).share_full fun _ => rfl)
      (refs (atEnc m) c) (refs (atSel m) c) ((allDats m 0 c).arrAt · cfg0.N) (fun w => (atSel_arr m c w).symm)
      (fun b hb => atSel_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The selection call as a segment. -/
def selSeg : Pipeline.RegionSeg (pcfgs (F := F)) adm (allDats m) () defs₀ Variants.none (fun _ => ∅) (fun _ _ => (0 : ℕ)) 1 where
  win := launch1.win.to₀
  block_pos := launch1.block_pos
  stage_whole := launch1.stage_whole
  K := PEmpty
  osem k := k.elim
  ho := Pipeline.OwnSemFacts.none _
  hbody c := (sel_obligation (refs (atSel m)) c).loose
  hwaits := Pipeline.hwaits_of_owed_zero _ _ _ _ (fun _ => ∅) (fun _ _ => (0 : ℕ)) 1 fun _ _ => rfl
  pre c := iprop(held (c : Thread nD τ) (Pipeline.ucRefs τ sig) (atSel m c) ∗ rides c)
  post c := iprop(held (c : Thread nD τ) (Pipeline.ucRefs τ sig) (atDec m c) ∗ rides c)
  X c := iprop(∃ r, prngReg c r)
  Y c := iprop(∃ r, prngReg c r)
  Z c := Pipeline.unscopedRest (Ix := Unit) (Name := ℕ) (U := UR sig nD τ) (Lvl := ℕ) spec1 c (refs (atSel m) c)
  hentry c := by
    rw [Pipeline.ownSems0_none]
    have hsplit := Pipeline.arrays_of_unscopedBufs (p := 1) (pcfgs (F := F)) adm (allDats m) launch1.win launch1.arr_whole c
      ((allDats m 1 c).share_full fun _ => rfl) (refs (atSel m) c) (sel_A (refs (atSel m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (allDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allDats m) ((allDats m 1 c).share_full fun _ => rfl)
      (refs (atSel m) c) (refs (atDec m) c) ((allDats m 1 c).arrAt · cfg1.N) (fun w => (atDec_arr m c w).symm)
      (fun b hb => atDec_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call as a segment. -/
def decSeg : Pipeline.RegionSeg (pcfgs (F := F)) adm (allDats m) () defs₀ Variants.none (fun _ => ∅) (fun _ _ => (0 : ℕ)) 2 where
  win := launch2.win.to₀
  block_pos := launch2.block_pos
  stage_whole := launch2.stage_whole
  K := PEmpty
  osem k := k.elim
  ho := Pipeline.OwnSemFacts.none _
  hbody c := (dec_obligation (refs (atDec m)) c).loose
  hwaits := Pipeline.hwaits_of_owed_zero _ _ _ _ (fun _ => ∅) (fun _ _ => (0 : ℕ)) 2 fun _ _ => rfl
  pre c := iprop(held (c : Thread nD τ) (Pipeline.ucRefs τ sig) (atDec m c) ∗ rides c)
  post c := iprop((held (c : Thread nD τ) (Pipeline.ucRefs τ sig) (atEnd m c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (refs (atDec m) c)
  hentry c := by
    rw [Pipeline.ownSems0_none]
    have hsplit := Pipeline.arrays_of_unscopedBufs (p := 2) (pcfgs (F := F)) adm (allDats m) launch2.win launch2.arr_whole c
      ((allDats m 2 c).share_full fun _ => rfl) (refs (atDec m) c) (dec_A (refs (atDec m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 2 c).Φ 0 = Pipeline.ΦA spec2 c from rfl]; unfold Pipeline.ΦA
    iintro ⟨Hp, -, Hr⟩
    isplitl [Hr]; · iexact Hr
    iexact Hp
  hout c := by
    rw [Pipeline.ownSems0_none, show (allDats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allDats m) ((allDats m 2 c).share_full fun _ => rfl)
      (refs (atDec m) c) (refs (atEnd m) c) ((allDats m 2 c).arrAt · cfg2.N) (fun w => (atEnd_arr m c w).symm)
      (fun b hb => atEnd_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as its segments in order. -/
abbrev steps : List (Pipeline.Seg (pcfgs (F := F)) adm (allDats m) () defs₀ Variants.none (fun _ => ∅) (fun _ _ => (0 : ℕ))) :=
  [ .host (hostSeg m), .region (encSeg m), .region (selSeg m), .region (decSeg m) ]
theorem main_steps (c : Dev nD) : main (F := F) c = Pipeline.Seg.run (steps m) := (main_chain c).trans (by chain_rfl)

variable (ρ : Dev nD → PrngReg)

set_option backward.isDefEq.respectTransparency.types false in
/-- Every run of the program ends, with every buffer as after the decoder call and every counter at zero. -/
theorem runs : θ_run defs (onTc (τ := τ) (main (F := F))) ⟨m, fun _ => 0, ρ⟩ (fun r => (∀ c : Dev nD,
      ∀ b : Ref sig .tc, ¬ (Proc.devRef .tc b : DevRef τ sig).isScoped →
        r.2.mem ((c.tc : Thread nD τ).loc b) = atEnd m c (Proc.devRef .tc b))
      ∧ r.2.sem = fun _ => 0) :=
  Pipeline.θ_run_regions_kit_sems (pcfgs (F := F)) adm (allDats m) () cellOf_inj emb₁ defs₀ Variants.none (fun _ => ∅) (fun _ _ => (0 : ℕ)) m ρ main (steps m)
    (fun c Q => by rw [main_steps m c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(held (c : Thread nD τ) (Pipeline.ucRefs τ sig) (atLaunch m c) ∗ rides c))
    (Tₙ := fun c => iprop(held (c : Thread nD τ) (Pipeline.ucRefs τ sig) (atEnd m c) ∗ ∃ r, prngReg c r))
    (hch := ⟨fun _ => .rfl, fun _ => .rfl, fun _ => .rfl, fun _ => .rfl, fun _ => .rfl⟩)
    (hinit := by
      refine Pipeline.initEach (fun _ => ∅) (fun _ _ => (0 : ℕ)) fun c => ?_
      rw [show unscopedBufs c (fun b => m ((c : Thread nD τ).loc b)) = held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold held
      imodintro
      iapply (pointsTo_read_all (Pipeline.ucRefs τ sig) (fun b => (((c : Thread nD τ)).1, b)) (atEnd m c) s')
      isplitl [Hh] <;> iassumption)
    (hQ := fun s h hz => ⟨fun c b hb => h c _ (mem_unscoped b hb), funext fun g => hz g (.inr (regions_no_unscoped g.2))⟩)

/-- Every run leaves the five arguments as launched and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_arg0 (by decide)).trans (atEnd_args m c main_arg0 (by decide)),
     (h.1 c main_arg1 (by decide)).trans (atEnd_args m c main_arg1 (by decide)),
     (h.1 c main_arg2 (by decide)).trans (atEnd_args m c main_arg2 (by decide)),
     (h.1 c main_arg3 (by decide)).trans (atEnd_args m c main_arg3 (by decide)),
     (h.1 c main_arg4 (by decide)).trans (atEnd_args m c main_arg4 (by decide))⟩, h.2⟩) (runs m ρ)

end Cert.KernelIdeal.Sae

end
-- ==== Proof.Math.Encode.lean ====
/-
  One row through the encoder: mean, variance, deviation, the normed row and a pre-activation, over the extended reals.
-/
module

public import Idealize.ShloMosaic.Lib.Pointwise

@[expose] public section

noncomputable section

namespace RowMath

open Idealize.ShloMosaic

/-- The row's length, as the programs spell it. -/
abbrev width : EReal := Ideal.ofBits .f32 0x44400000#32

/-- What is added to the variance under the root. -/
abbrev smallest : EReal := Ideal.ofBits .f32 0x3727C5AC#32

/-- The mean of a row. -/
def mean (x : Fin 768 → EReal) : EReal := Ideal.div (∑ k, x k) width

/-- The variance of a row. -/
def variance (x : Fin 768 → EReal) : EReal := Ideal.div (∑ k, (x k - mean x) * (x k - mean x)) width

/-- The deviation of a row. -/
def deviation (x : Fin 768 → EReal) : EReal := Ideal.sqrt (variance x)

/-- An entry of the normed row. -/
def normed (x : Fin 768 → EReal) (k : Fin 768) : EReal := Ideal.div (x k - mean x) (Ideal.sqrt (variance x + smallest))

/-- A pre-activation: the normed row against a column of the encoder's matrix, plus the column's bias. -/
def activation (x w : Fin 768 → EReal) (b : EReal) : EReal := (∑ k, normed x k * w k) + b

/-- The row of pre-activations that the tokens, the encoder's matrix and its bias give token `r`. -/
def preRow (X : FVec Ideal ⟨2, ![4096, 768]⟩ .f32) (We : FVec Ideal ⟨2, ![768, 24576]⟩ .f32) (Be : FVec Ideal ⟨1, ![24576]⟩ .f32)
    (r : Fin 4096) (j : Fin 24576) : EReal :=
  activation (fun k => X (ix2 r k)) (fun k => We (ix2 k j)) (Be (ix1 j))

/-- An entry of a row's result: the latents `l` against the decoder's column `w`, its bias `b`, the row's deviation `s` and mean `m`. -/
def decoded (l w : Fin 24576 → EReal) (b s m : EReal) : EReal := ((∑ j, l j * w j) + b) * s + m

end RowMath

end
-- ==== Proof.Value.Enc.lean ====
/-
  The arrays that the encoder call leaves: pre-activations, means and deviations, row by row.
-/
module

public import proofs.«01_k».proof.Proof.KernelIdeal.Enc
public import proofs.«01_k».proof.Proof.Math.Encode
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Sae RowMath
open Idealize.ShloMosaic Idealize.ShloMosaic.TcCoe Idealize.SL.Sem
open Idealize.ShloMosaic.Pipeline (Dat)

/-- The pre-activations of all rows. -/
def preArr (X : FVec Ideal S4096x768 .f32) (Wm : FVec Ideal S768x24576 .f32) (B : FVec Ideal S1x24576 .f32) : FVec Ideal S4096x24576 .f32 :=
  fun i => activation (fun k => X (ix2 (i 0) k)) (fun k => Wm (ix2 k (i 1))) (B (ix2 0 (i 1)))

/-- The means of all rows. -/
def meanArr (X : FVec Ideal S4096x768 .f32) : FVec Ideal S4096x1 .f32 := fun i => mean fun k => X (ix2 (i 0) k)

/-- The deviations of all rows. -/
def stdArr (X : FVec Ideal S4096x768 .f32) : FVec Ideal S4096x1 .f32 := fun i => deviation fun k => X (ix2 (i 0) k)

/-- The body's mean of a block's row. -/
theorem enc_pay1 (x : Vec Ideal S1024x768 .f32) (r : Fin 1024) (u : Fin 1) : k0_pay1 x (ix2 r u) = mean fun k => x (ix2 r k) := by
  pointwise [k0_pay1, mean]

/-- The body's centered entry. -/
theorem enc_pay2 (x : Vec Ideal S1024x768 .f32) (r : Fin 1024) (k : Fin 768) : k0_pay2 x (ix2 r k) = x (ix2 r k) - mean fun k => x (ix2 r k) := by
  pointwise [k0_pay2, enc_pay1]

/-- The body's variance of a block's row. -/
theorem enc_pay3 (x : Vec Ideal S1024x768 .f32) (r : Fin 1024) (u : Fin 1) : k0_pay3 x (ix2 r u) = variance fun k => x (ix2 r k) := by
  pointwise [k0_pay3, enc_pay2, variance]

/-- The body's deviation of a block's row. -/
theorem enc_pay5 (x : Vec Ideal S1024x768 .f32) (r : Fin 1024) (u : Fin 1) : k0_pay5 x (ix2 r u) = deviation fun k => x (ix2 r k) := by
  pointwise [k0_pay5, enc_pay3, deviation]

/-- The body's pre-activation. -/
theorem enc_pay4 (x : Vec Ideal S1024x768 .f32) (w : Vec Ideal S768x2048 .f32) (b : Vec Ideal S1x2048 .f32) (r : Fin 1024) (j : Fin 2048) :
    k0_pay4 x w b (ix2 r j) = activation (fun k => x (ix2 r k)) (fun k => w (ix2 k j)) (b (ix2 0 j)) := by
  pointwise [k0_pay4, enc_pay2, enc_pay3, activation, normed]

/-- Which block each window has at a point. -/
theorem enc_idx : ∀ t : Fin cfg0.N, win0_0.index t = ![t.val / 12, 0] ∧ win0_1.index t = ![0, t.val % 12] ∧ win0_2.index t = ![0, t.val % 12]
    ∧ win0_3.index t = ![t.val / 12, t.val % 12] ∧ win0_4.index t = ![t.val / 12, 0] ∧ win0_5.index t = ![t.val / 12, 0] :=
  (by decide +kernel : ∀ t : Fin grid0.N, _)

variable (V : Entry Ideal)

/-- The array of pre-activations after the call. -/
theorem enc_pre (c : Dev nD) : (encDat V c).arrAt 3 cfg0.N = preArr (V c main_arg0) (V c main_arg1) (V c main_v0) := by
  refine (encDat V c).arrAt_eq_of_covers 3 _ (by decide +kernel) fun t _ y => ?_
  blk_simp
  rw [enc_after3]
  unfold encPre
  frame_out
  idx_vars y
  rw [enc_pay4]
  unfold preArr
  refine congr (congr (congrArg activation (funext fun k => ?_)) (funext fun k => ?_)) ?_
  · blk_ext [encBlk, enc_idx t]
  · blk_ext [encBlk, enc_idx t]
  · blk_ext [encBlk, enc_idx t]

/-- The array of means after the call. -/
theorem enc_mean (c : Dev nD) : (encDat V c).arrAt 4 cfg0.N = meanArr (V c main_arg0) := by
  refine (encDat V c).arrAt_eq_of_covers 4 _ (by decide +kernel) fun t _ y => ?_
  blk_simp
  rw [enc_after4]
  unfold encMean
  frame_out
  idx_vars y
  rw [enc_pay1]
  unfold meanArr
  refine congrArg mean (funext fun k => ?_)
  blk_ext [encBlk, enc_idx t]

/-- The array of deviations after the call. -/
theorem enc_std (c : Dev nD) : (encDat V c).arrAt 5 cfg0.N = stdArr (V c main_arg0) := by
  refine (encDat V c).arrAt_eq_of_covers 5 _ (by decide +kernel) fun t _ y => ?_
  blk_simp
  rw [enc_after5]
  unfold encStd
  frame_out
  idx_vars y
  rw [enc_pay5]
  unfold stdArr
  refine congrArg deviation (funext fun k => ?_)
  blk_ext [encBlk, enc_idx t]

end Cert.KernelIdeal.Value

end
-- ==== Proof.Math.Bisect.lean ====
/-
  Bisection of an interval of naturals for a property that may hold at small numbers and fail at large ones.
-/
module

public import Idealize.ShloMosaic.Lib.TotalOrder

@[expose] public section

namespace RowMath

variable (P : ℕ → Prop) [DecidablePred P]

/-- The middle of an interval. -/
def middle (s : ℕ × ℕ) : ℕ := s.1 + (s.2 - s.1) / 2

/-- One halving: the lower end moves to the middle where the property holds there, else the upper end does. -/
def halve (s : ℕ × ℕ) : ℕ × ℕ := if P (middle s) then (middle s, s.2) else (s.1, middle s)

/-- What the interval keeps: the lower end is zero or has the property, and if zero has the property, the interval is not
    empty, no longer than `w`, and its upper end is the first bound `H` or lacks the property. -/
structure Brackets (H w : ℕ) (s : ℕ × ℕ) : Prop where
  le : s.1 ≤ s.2
  top : s.2 ≤ H
  low : s.1 = 0 ∨ P s.1
  high : P 0 → s.1 < s.2 ∧ s.2 - s.1 ≤ w ∧ (s.2 = H ∨ ¬P s.2)

variable {P}

/-- A halving halves the bound on the length and keeps the rest. -/
theorem Brackets.halve {H w : ℕ} {s : ℕ × ℕ} (h : Brackets P H (2 * w) s) (hw : 1 ≤ w) : Brackets P H w (halve P s) := by
  obtain ⟨lo, hi⟩ := s
  obtain ⟨h1, h2, h3, h4⟩ := h
  simp only at h1 h2 h3 h4
  unfold RowMath.halve middle
  simp only
  by_cases hp : P (lo + (hi - lo) / 2)
  · rw [if_pos hp]
    refine ⟨?_, h2, Or.inr hp, fun h0 => ?_⟩
    · simp only; omega
    · obtain ⟨a, b, d⟩ := h4 h0
      exact ⟨by simp only; omega, by simp only; omega, d⟩
  · rw [if_neg hp]
    refine ⟨?_, ?_, h3, fun h0 => ?_⟩
    · simp only; omega
    · simp only; omega
    · obtain ⟨a, b, d⟩ := h4 h0
      have hlo : P lo := h3.elim (fun e => e ▸ h0) id
      have hne : (hi - lo) / 2 ≠ 0 := fun e => hp (by rw [e]; exact hlo)
      exact ⟨by simp only; omega, by simp only; omega, Or.inr hp⟩

/-- `n` halvings divide the bound on the length by `2 ^ n`. -/
theorem Brackets.iterate {H w : ℕ} (hw : 1 ≤ w) (n : ℕ) : ∀ {s : ℕ × ℕ}, Brackets P H (2 ^ n * w) s → Brackets P H w ((RowMath.halve P)^[n] s) := by
  induction n with
  | zero => intro s h; simpa using h
  | succ n ih =>
    intro s h
    rw [Function.iterate_succ_apply]
    refine ih (Brackets.halve ?_ ?_)
    · have e : 2 ^ (n + 1) * w = 2 * (2 ^ n * w) := by ring
      rwa [e] at h
    · exact Nat.le_trans hw (Nat.le_mul_of_pos_left w (Nat.two_pow_pos n))

/-- The whole interval to begin with. -/
theorem Brackets.start {H w : ℕ} (hH : 0 < H) (hw : H ≤ w) : Brackets P H w (0, H) :=
  ⟨Nat.zero_le _, Nat.le_refl _, Or.inl rfl, fun _ => ⟨hH, by simpa using hw, Or.inl rfl⟩⟩

/-- After the last halving the lower end is zero or has the property, and if zero has it, the number after the lower end is
    the first bound or lacks it. -/
theorem bisects {H n : ℕ} (hH : 0 < H) (hn : H ≤ 2 ^ n) :
    (((halve P)^[n] (0, H)).1 = 0 ∨ P ((halve P)^[n] (0, H)).1)
      ∧ (P 0 → ((halve P)^[n] (0, H)).1 < H ∧ (((halve P)^[n] (0, H)).1 + 1 = H ∨ ¬P (((halve P)^[n] (0, H)).1 + 1))) := by
  have h : Brackets P H 1 ((halve P)^[n] (0, H)) := Brackets.iterate (Nat.le_refl 1) n (Brackets.start hH (by simpa using hn))
  refine ⟨h.low, fun h0 => ?_⟩
  obtain ⟨a, b, d⟩ := h.high h0
  have e : ((halve P)^[n] (0, H)).2 = ((halve P)^[n] (0, H)).1 + 1 := by omega
  rw [e] at d
  exact ⟨by have := h.top; omega, d⟩

end RowMath

end
-- ==== Proof.Math.Rank.lean ====
/-
  The greatest entries of a row of extended reals: a threshold between two neighbours of the sorted row picks them.
-/
module

public import Idealize.ShloMosaic.Lib.TotalOrder

@[expose] public section

namespace RowMath

variable {N : ℕ}

open Classical in
/-- How many entries of the row are at least `t`. -/
noncomputable def atLeast (q : Fin N → EReal) (t : EReal) : ℕ := (Finset.univ.filter fun j => t ≤ q j).card

/-- `e` lists the positions of the row by falling entries. -/
structure Sorts (q : Fin N → EReal) (e : Fin N → Fin N) : Prop where
  inj : Function.Injective e
  surj : Function.Surjective e
  falls : ∀ i j, i < j → q (e j) ≤ q (e i)

variable {q : Fin N → EReal} {e : Fin N → Fin N}

theorem Sorts.falls_le (h : Sorts q e) {i j : Fin N} (hij : i ≤ j) : q (e j) ≤ q (e i) := by
  rcases Nat.eq_or_lt_of_le hij with he | hl
  · rw [Fin.ext he]
  · exact h.falls i j hl

/-- More than `k` entries are at least `t` exactly when the entry at place `k` of the sorted row is. -/
theorem Sorts.lt_atLeast_iff (h : Sorts q e) (k : Fin N) (t : EReal) : k.val < atLeast q t ↔ t ≤ q (e k) := by
  classical
  have hcard : ∀ n : ℕ, n ≤ N → ((Finset.univ.filter fun i : Fin N => i.val < n).image e).card = n := fun n hn => by
    rw [Finset.card_image_of_injective _ h.inj]
    exact Fin.card_filter_val_lt.trans (Nat.min_eq_right hn)
  unfold atLeast
  constructor
  · intro hlt
    by_contra hn
    have hsub : (Finset.univ.filter fun j => t ≤ q j) ⊆ (Finset.univ.filter fun i : Fin N => i.val < k.val).image e := by
      intro j hj
      obtain ⟨i, rfl⟩ := h.surj j
      refine Finset.mem_image_of_mem _ (Finset.mem_filter.2 ⟨Finset.mem_univ _, ?_⟩)
      by_contra hki
      exact hn (le_trans (Finset.mem_filter.1 hj).2 (h.falls_le (Nat.le_of_not_lt hki)))
    have := Finset.card_le_card hsub
    rw [hcard k.val k.isLt.le] at this
    omega
  · intro ht
    have hsub : (Finset.univ.filter fun i : Fin N => i.val < k.val + 1).image e ⊆ Finset.univ.filter fun j => t ≤ q j := by
      intro j hj
      obtain ⟨i, hi, rfl⟩ := Finset.mem_image.1 hj
      have hi' : i.val < k.val + 1 := (Finset.mem_filter.1 hi).2
      exact Finset.mem_filter.2 ⟨Finset.mem_univ _, le_trans ht (h.falls_le (show i.val ≤ k.val by omega))⟩
    have := Finset.card_le_card hsub
    rw [hcard (k.val + 1) k.isLt] at this
    omega

/-- A threshold above the entry at place `k'` and up to the one before it is reached exactly by the entries before `k'`. -/
theorem Sorts.reaches_iff (h : Sorts q e) {k k' : Fin N} (hk : k.val + 1 = k'.val) {t : EReal} (hlow : q (e k') < t) (hup : t ≤ q (e k))
    (i : Fin N) : t ≤ q (e i) ↔ i.val < k'.val := by
  constructor
  · intro ht
    by_contra hn
    exact absurd (lt_of_lt_of_le hlow ht) (not_lt.2 (h.falls_le (Nat.le_of_not_lt hn)))
  · intro hi
    exact le_trans hup (h.falls_le (show i.val ≤ k.val by omega))

end RowMath

end
-- ==== Proof.Math.Grid.lean ====
/-
  The float32 numbers that are not negative, listed by their bits: neighbours are close to each other.
-/
module

public import Idealize.ShloMosaic.Lib.TotalOrder

@[expose] public section

noncomputable section

namespace RowMath

open Idealize.ShloMosaic Idealize.ShloMosaic.TotalOrder

/-- The extended real that the float32 number with the bits `n` stands for. -/
def grid (n : ℕ) : EReal := Ideal.ofBits .f32 (BitVec.ofNat 32 n)

/-- The bits of positive infinity: the numbers below are the bits of the finite numbers that are not negative. -/
abbrev infBits : ℕ := 2139095040

/-- The whole multiple of the least positive float32 number that the bits `n` stand for. -/
def units (n : ℕ) : ℕ := sig 23 (n / 2 ^ 23) (n % 2 ^ 23)

/-- The bits of a finite number that is not negative stand for a whole multiple of the least positive one. -/
theorem grid_eq {n : ℕ} (h : n < infBits) : grid n = (((units n : ℝ) * ulp 8 23 : ℝ) : EReal) := by
  have hn : (BitVec.ofNat 32 n).toNat = n := by rw [BitVec.toNat_ofNat]; exact Nat.mod_eq_of_lt (by simp only [infBits] at h; omega)
  have he : expo 8 23 (BitVec.ofNat 32 n) = n / 2 ^ 23 := by
    rw [expo_eq, hn]; simp only [infBits] at h; omega
  have hf : frac 23 (BitVec.ofNat 32 n) = n % 2 ^ 23 := by rw [frac_eq, hn]
  have hx : ¬ n / 2 ^ 23 = 2 ^ 8 - 1 := by simp only [infBits] at h; omega
  have hs : sign 8 23 (BitVec.ofNat 32 n) = false := by
    refine (sign_eq_msb (e := 8) (m := 23) (BitVec.ofNat 32 n)).trans ?_
    refine Bool.eq_false_iff.2 fun hm => ?_
    have := (msb_iff (e := 8) (m := 23) (BitVec.ofNat 32 n)).1 hm
    simp only [infBits] at h
    have e : (2 : ℕ) ^ (8 + 23) = 2147483648 := by norm_num
    rw [e] at this
    omega
  have hN : ¬IsNaN 8 23 (BitVec.ofNat 32 n) := fun hN => hx (he ▸ hN.1)
  show Ideal.ieee 8 23 (BitVec.ofNat 32 n) = _
  rw [ieee_eq_signed_absVal hN, hs]
  simp only [Bool.false_eq_true, ↓reduceIte]
  unfold absVal
  rw [he, hf, if_neg hx]
  rfl

/-- Neighbouring multiples: the step is one unit, or at most the `2 ^ 23`-th part of the smaller. -/
theorem units_step (n : ℕ) : 2 ^ 23 * units (n + 1) ≤ 2 ^ 23 * units n + max (units n) (2 ^ 23) := by
  have hl := Nat.div_add_mod n (2 ^ 23)
  have hr := Nat.mod_lt n (Nat.two_pow_pos 23)
  generalize hE : n / 2 ^ 23 = E at *
  generalize hT : n % 2 ^ 23 = T at *
  have hu : units n = sig 23 E T := by unfold units; rw [hE, hT]
  rw [hu]
  by_cases hc : T + 1 < 2 ^ 23
  · have e1 : (n + 1) / 2 ^ 23 = E := by omega
    have e2 : (n + 1) % 2 ^ 23 = T + 1 := by omega
    have hu1 : units (n + 1) = sig 23 E (T + 1) := by unfold units; rw [e1, e2]
    rw [hu1]
    unfold sig
    by_cases h0 : E = 0
    · simp only [h0, ↓reduceIte]
      simp only [Nat.zero_sub, pow_zero, Nat.mul_one, Nat.add_zero]
      omega
    · simp only [h0, ↓reduceIte]
      generalize 2 ^ (E - 1) = p
      have : 2 ^ 23 * p ≤ (T + 2 ^ 23) * p := Nat.mul_le_mul_right p (by omega)
      have e3 : 2 ^ 23 * ((T + 1 + 2 ^ 23) * p) = 2 ^ 23 * ((T + 2 ^ 23) * p) + 2 ^ 23 * p := by ring
      rw [e3]
      exact Nat.add_le_add_left (Nat.le_trans this (Nat.le_max_left _ _)) _
  · have hT' : T + 1 = 2 ^ 23 := by omega
    have e1 : (n + 1) / 2 ^ 23 = E + 1 := by omega
    have e2 : (n + 1) % 2 ^ 23 = 0 := by omega
    have hu1 : units (n + 1) = sig 23 (E + 1) 0 := by unfold units; rw [e1, e2]
    rw [hu1]
    unfold sig
    simp only [Nat.add_eq_zero_iff, one_ne_zero, and_false, ↓reduceIte, Nat.zero_add, Nat.add_sub_cancel]
    by_cases h0 : E = 0
    · simp only [h0, ↓reduceIte]
      simp only [Nat.zero_sub, pow_zero, Nat.mul_one, Nat.add_zero]
      omega
    · simp only [h0, ↓reduceIte]
      obtain ⟨k, rfl⟩ : ∃ k, E = k + 1 := ⟨E - 1, by omega⟩
      simp only [Nat.add_sub_cancel]
      rw [Nat.pow_succ 2 k]
      generalize 2 ^ k = p
      have : 2 ^ 23 * p ≤ (T + 2 ^ 23) * p := Nat.mul_le_mul_right p (by omega)
      have e3 : 2 ^ 23 * (2 ^ 23 * (p * 2)) = 2 ^ 23 * ((T + 2 ^ 23) * p) + 2 ^ 23 * p := by
        have : T = 2 ^ 23 - 1 := by omega
        subst this
        norm_num
        ring
      rw [e3]
      exact Nat.add_le_add_left (Nat.le_trans this (Nat.le_max_left _ _)) _

/-- The bits zero stand for zero. -/
theorem grid_zero : grid 0 = 0 := by
  show Ideal.ofBits .f32 0x00000000#32 = 0
  simp [Ideal.ofBits, Ideal.ieee]

/-- What a float32 number and its neighbour differ by at most, as a part of the number: `2 ^ (-23)`. -/
abbrev part : EReal := Ideal.ofBits .f32 0x34000000#32

/-- The least normal float32 number: `2 ^ (-126)`. -/
abbrev leastNormal : EReal := Ideal.ofBits .f32 0x00800000#32

/-- The greatest finite float32 number. -/
abbrev greatest : EReal := Ideal.ofBits .f32 0x7F7FFFFF#32

theorem units_part : units 0x34000000 = 2 ^ 126 := by decide +kernel
theorem units_leastNormal : units 0x00800000 = 2 ^ 23 := by decide +kernel
theorem units_greatest : 0 < units 0x7F7FFFFF := by decide +kernel

theorem part_eq : part = ((((2 : ℝ) ^ 23)⁻¹ : ℝ) : EReal) := by
  show grid 0x34000000 = _
  rw [grid_eq (by decide), units_part]
  congr 1
  unfold ulp
  rw [show (1 - (2 ^ (8 - 1) - 1 : ℤ) - (23 : ℕ)) = -149 by norm_num]
  rw [zpow_neg, show ((2 : ℝ) ^ (149 : ℤ)) = 2 ^ 126 * 2 ^ 23 by norm_num, Nat.cast_pow, Nat.cast_ofNat]
  field_simp

theorem leastNormal_eq : leastNormal = ((2 ^ 23 * ulp 8 23 : ℝ) : EReal) := by
  show grid 0x00800000 = _
  rw [grid_eq (by decide), units_leastNormal, Nat.cast_pow, Nat.cast_ofNat]

theorem leastNormal_pos : 0 < leastNormal := by
  rw [leastNormal_eq]
  exact EReal.coe_pos.2 (mul_pos (by positivity) (ulp_pos 8 23))

theorem greatest_eq : greatest = (((units 0x7F7FFFFF : ℝ) * ulp 8 23 : ℝ) : EReal) := grid_eq (n := 0x7F7FFFFF) (by decide)

theorem greatest_pos : 0 < greatest := by
  rw [greatest_eq]
  exact EReal.coe_pos.2 (mul_pos (Nat.cast_pos.2 units_greatest) (ulp_pos 8 23))

theorem grid_top : grid (infBits - 1) = greatest := rfl

theorem grid_nonneg {n : ℕ} (h : n < infBits) : 0 ≤ grid n := by
  rw [grid_eq h]
  exact EReal.coe_nonneg.2 (mul_nonneg (Nat.cast_nonneg _) (ulp_pos 8 23).le)

/-- A float32 number's upper neighbour is no further than `2 ^ (-23)` of the number, or than the least normal number. -/
theorem grid_step {n : ℕ} (h : n + 1 < infBits) : grid (n + 1) ≤ grid n + max (grid n * part) leastNormal := by
  rw [grid_eq h, grid_eq (Nat.lt_of_succ_lt h), part_eq, leastNormal_eq]
  have hu := ulp_pos 8 23
  have hs : (2 : ℝ) ^ 23 * (units (n + 1) : ℝ) ≤ 2 ^ 23 * (units n : ℝ) + max (units n : ℝ) (2 ^ 23) := by
    exact_mod_cast units_step n
  rw [← EReal.coe_mul, ← EReal.coe_strictMono.monotone.map_max, ← EReal.coe_add, EReal.coe_le_coe_iff]
  generalize ulp 8 23 = v at *
  generalize (units (n + 1) : ℝ) = a at *
  have hb : (0 : ℝ) ≤ units n := Nat.cast_nonneg _
  generalize (units n : ℝ) = b at *
  rcases le_total b ((2 : ℝ) ^ 23) with hm | hm
  · rw [max_eq_right hm] at hs
    have h1 : a ≤ b + 1 := by nlinarith
    have h2 : a * v ≤ b * v + 2 ^ 23 * v := by nlinarith
    exact h2.trans (by gcongr; exact le_max_right _ _)
  · rw [max_eq_left hm] at hs
    have h2 : a * v ≤ b * v + b * v * (2 ^ 23)⁻¹ := by
      have : a ≤ b + b * (2 ^ 23)⁻¹ := by
        have h8 : (0 : ℝ) < 2 ^ 23 := by positivity
        rw [← mul_le_mul_iff_right₀ h8]
        calc (2 : ℝ) ^ 23 * a ≤ 2 ^ 23 * b + b := hs
          _ = 2 ^ 23 * (b + b * (2 ^ 23)⁻¹) := by field_simp
      nlinarith
    exact h2.trans (by gcongr; exact le_max_left _ _)

end RowMath

end
-- ==== Proof.Math.Latents.lean ====
/-
  The threshold found by bisection over the float32 numbers, and the entries of a row that it lets through.
-/
module

public import proofs.«01_k».proof.Proof.Math.Bisect
public import proofs.«01_k».proof.Proof.Math.Rank
public import proofs.«01_k».proof.Proof.Math.Grid

@[expose] public section

noncomputable section

namespace RowMath

open Idealize.ShloMosaic

variable {N : ℕ}

/-- At least 64 entries of the row are at least the float32 number with the bits `n`. -/
def Reached (q : Fin N → EReal) (n : ℕ) : Prop := 64 ≤ atLeast q (grid n)

instance (q : Fin N → EReal) : DecidablePred (Reached q) := fun n => Nat.decLe 64 (atLeast q (grid n))

/-- The bits of the row's threshold: the lower end after 31 halvings. -/
def lowEnd (q : Fin N → EReal) : ℕ := ((halve (Reached q))^[31] (0, infBits)).1

/-- The row's threshold. -/
def threshold (q : Fin N → EReal) : EReal := grid (lowEnd q)

variable {q : Fin N → EReal} {e : Fin N → Fin N}

/-- A row whose entry at place 64 is far enough below the one at place 63: where entry 63 is positive, the threshold lies between them. -/
theorem threshold_between (h : Sorts q e) {k k' : Fin N} (hk : k.val = 63) (hk' : k'.val = 64)
    (hpos : 0 < q (e k')) (hsep : q (e k') + max (min (q (e k)) greatest * part) leastNormal ≤ min (q (e k)) greatest) :
    q (e k') < threshold q ∧ threshold q ≤ q (e k) := by
  have hR : ∀ n, Reached q n ↔ grid n ≤ q (e k) := fun n => by
    rw [← h.lt_atLeast_iff k, hk]
    exact Iff.rfl
  have hkk : q (e k') ≤ q (e k) := h.falls_le (show k.val ≤ k'.val by omega)
  have h0 : Reached q 0 := (hR 0).2 (by rw [grid_zero]; exact hpos.le.trans hkk)
  obtain ⟨hlow, hhigh⟩ := bisects (P := Reached q) (H := infBits) (n := 31) (by decide) (by decide)
  obtain ⟨hlt, htop⟩ := hhigh h0
  change lowEnd q = 0 ∨ Reached q (lowEnd q) at hlow
  change lowEnd q < infBits at hlt
  change lowEnd q + 1 = infBits ∨ ¬Reached q (lowEnd q + 1) at htop
  have hreach : Reached q (lowEnd q) := hlow.elim (fun he => he ▸ h0) id
  refine ⟨?_, (hR _).1 hreach⟩
  by_contra hn
  have hle : threshold q ≤ q (e k') := not_lt.1 hn
  set b := min (q (e k)) greatest with hb
  have hgap : 0 ≤ max (b * part) leastNormal := le_trans leastNormal_pos.le (le_max_right _ _)
  have hvb : q (e k') ≤ b := le_trans (le_add_of_nonneg_right hgap) hsep
  by_cases hfin : lowEnd q + 1 < infBits
  · refine htop.elim (fun he => absurd he (Nat.ne_of_lt hfin)) fun hnot => hnot ((hR _).2 ?_)
    have hpart : (0 : EReal) ≤ part := by
      rw [part_eq]
      exact EReal.coe_nonneg.2 (by positivity)
    calc grid (lowEnd q + 1) ≤ grid (lowEnd q) + max (grid (lowEnd q) * part) leastNormal := grid_step hfin
      _ ≤ q (e k') + max (b * part) leastNormal :=
          add_le_add hle (max_le_max (mul_le_mul_of_nonneg_right (hle.trans hvb) hpart) (le_refl _))
      _ ≤ b := hsep
      _ ≤ q (e k) := min_le_left _ _
  · have ht : threshold q = greatest := by
      unfold threshold
      rw [show lowEnd q = infBits - 1 by omega, grid_top]
    have h1 : greatest + leastNormal ≤ greatest := by
      rw [ht] at hle
      exact (add_le_add hle (le_max_right _ _)).trans (hsep.trans (min_le_right _ _))
    have h2 := greatest_eq
    have h3 := leastNormal_eq
    have h4 := leastNormal_pos
    rw [h3] at h4
    rw [h2, h3, ← EReal.coe_add, EReal.coe_le_coe_iff] at h1
    have h5 := EReal.coe_pos.1 h4
    linarith

/-- A row whose entry at place 64 is not positive, or is far enough below the one at place 63: what the threshold lets through,
    negative entries as zero, is what the first 64 places of the sorted row hold, negative entries as zero. -/
theorem latents (h : Sorts q e) {k k' : Fin N} (hk : k.val = 63) (hk' : k'.val = 64)
    (hsep : q (e k') ≤ 0 ∨ q (e k') + max (min (q (e k)) greatest * part) leastNormal ≤ min (q (e k)) greatest) (i : Fin N) :
    (if threshold q ≤ q (e i) then max (q (e i)) 0 else 0) = if i.val < 64 then max (q (e i)) 0 else 0 := by
  by_cases hpos : 0 < q (e k')
  · obtain ⟨h1, h2⟩ := threshold_between h hk hk' hpos (hsep.resolve_left (not_le.2 hpos))
    rw [← hk']
    exact if_congr (h.reaches_iff (by omega) h1 h2 i) rfl rfl
  · have hneg := not_lt.1 hpos
    by_cases hi : i.val < 64
    · rw [if_pos hi]
      by_cases ht : threshold q ≤ q (e i)
      · rw [if_pos ht]
      · rw [if_neg ht]
        refine (max_eq_right ?_).symm
        obtain ⟨hlow, -⟩ := bisects (P := Reached q) (H := infBits) (n := 31) (by decide) (by decide)
        change lowEnd q = 0 ∨ Reached q (lowEnd q) at hlow
        rcases hlow with h0 | hr
        · unfold threshold at ht
          rw [h0, grid_zero] at ht
          exact (not_le.1 ht).le
        · have : threshold q ≤ q (e k) := (h.lt_atLeast_iff k _).1 (by rw [hk]; exact hr)
          exact absurd (this.trans (h.falls_le (show i.val ≤ k.val by omega))) ht
    · rw [if_neg hi]
      have : q (e i) ≤ 0 := (h.falls_le (show k'.val ≤ i.val by omega)).trans hneg
      rw [max_eq_right this, ite_self]

end RowMath

end
-- ==== Proof.Value.Sel.lean ====
/-
  What the selection call's 31 halvings leave in a row: the bisection of the float32 numbers for the row's entries.
-/
module

public import proofs.«01_k».proof.Proof.KernelIdeal.Sel
public import proofs.«01_k».proof.Proof.Math.Latents
public import Idealize.ShloMosaic.Lib.Pipeline.ValueKit
public import Idealize.ShloMosaic.Lib.Pointwise
public import Idealize.ShloMosaic.Lib.Routing.Words

@[expose] public section

set_option maxRecDepth 16384

noncomputable section

namespace Cert.KernelIdeal.Value

open Cert.KernelIdeal Cert.KernelIdeal.Gen Cert.KernelIdeal.Sae RowMath
open Idealize.ShloMosaic Idealize.ShloMosaic.TcCoe Idealize.SL.Sem

/-- A row of a block of 128 rows of pre-activations. -/
abbrev selRow (p : FVec Ideal S128x24576 .f32) (r : Fin 128) : Fin 24576 → EReal := fun j => p (ix2 r j)

/-- Of two words that hold naturals, the difference. -/
theorem subi_word {a b : ℕ} (h1 : a ≤ b) (h2 : b < 2 ^ 31) : IntOp.subi (BitVec.ofNat 32 b) (BitVec.ofNat 32 a) = BitVec.ofNat 32 (b - a) := by
  show BitVec.ofNat 32 b - BitVec.ofNat 32 a = _
  apply BitVec.eq_of_toNat_eq
  simp only [BitVec.toNat_sub, BitVec.toNat_ofNat]
  omega

/-- The rounding of a quotient by two towards minus infinity never corrects a word that holds a natural: the guard is zero. -/
theorem halfGuard_word {d : ℕ} (hd : d < 2 ^ 31) :
    IntOp.andi
      (IntOp.cmpi CmpIPredicate.ne
        (IntOp.subi (BitVec.setWidth 32 (IntOp.cmpi CmpIPredicate.sgt (BitVec.ofNat 32 d) 0#32))
          (BitVec.setWidth 32 (IntOp.cmpi CmpIPredicate.slt (BitVec.ofNat 32 d) 0#32)))
        (Scalar.subi (Scalar.extui (Scalar.cmpi CmpIPredicate.sgt 2#32 0#32)) (Scalar.extui (Scalar.cmpi CmpIPredicate.slt 2#32 0#32))))
      (IntOp.cmpi CmpIPredicate.ne (IntOp.remsi ArithUnit.vector (BitVec.ofNat 32 d) 2#32) 0#32) = 0#1 := by
  rw [show (2#32 : BitVec 32) = BitVec.ofNat 32 2 from rfl, Routing.remsi_word .vector hd (by decide) (by decide)]
  have hslt : (BitVec.ofNat 32 d).slt 0#32 = false := by
    rw [BitVec.slt_eq_decide, BitVec.toInt_eq_toNat_of_lt (by rw [BitVec.toNat_ofNat]; omega)]
    simp only [BitVec.toInt_zero, decide_eq_false_iff_not, not_lt]
    exact Int.natCast_nonneg _
  by_cases h0 : d = 0
  · subst h0
    decide
  · have hsgt : (0#32 : BitVec 32).slt (BitVec.ofNat 32 d) = true := by
      rw [BitVec.slt_eq_decide, BitVec.toInt_eq_toNat_of_lt (x := BitVec.ofNat 32 d) (by rw [BitVec.toNat_ofNat]; omega), BitVec.toNat_ofNat]
      simp only [BitVec.toInt_zero, decide_eq_true_eq]
      omega
    have e1 : IntOp.cmpi CmpIPredicate.slt (BitVec.ofNat 32 d) 0#32 = 0#1 := by
      show BitVec.ofBool _ = _
      rw [hslt]; rfl
    have e2 : IntOp.cmpi CmpIPredicate.sgt (BitVec.ofNat 32 d) 0#32 = 1#1 := by
      show BitVec.ofBool _ = _
      rw [hsgt]; rfl
    rw [e1, e2]
    have e3 : IntOp.cmpi CmpIPredicate.ne (IntOp.subi (BitVec.setWidth 32 1#1) (BitVec.setWidth 32 0#1))
        (Scalar.subi (Scalar.extui (Scalar.cmpi CmpIPredicate.sgt (BitVec.ofNat 32 2) 0#32))
          (Scalar.extui (Scalar.cmpi CmpIPredicate.slt (BitVec.ofNat 32 2) 0#32))) = 0#1 := by decide
    rw [e3]
    exact BitVec.zero_and

/-- The body's middle of two words that hold naturals is the word of the naturals' middle. -/
theorem middle_word (lo hi : IVec S128x1 32) (r : Fin 128) {s : ℕ × ℕ} (hlo : lo (ix2 r 0) = BitVec.ofNat 32 s.1)
    (hhi : hi (ix2 r 0) = BitVec.ofNat 32 s.2) (h1 : s.1 ≤ s.2) (h2 : s.2 ≤ infBits) : k1_pay3 lo hi (ix2 r 0) = BitVec.ofNat 32 (middle s) := by
  have hb : s.2 < 2 ^ 31 := Nat.lt_of_le_of_lt h2 (by decide)
  pointwise [k1_pay3, hlo, hhi]
  rw [subi_word h1 hb, halfGuard_word (by omega), show (2#32 : BitVec 32) = BitVec.ofNat 32 2 from rfl,
    Routing.divsi_word .vector (by omega) (by decide) (by decide)]
  show BitVec.ofNat 32 s.1 + Scalar.select 0#1 _ (BitVec.ofNat 32 ((s.2 - s.1) / 2)) = _
  rw [show ∀ x : BitVec 32, Scalar.select 0#1 x (BitVec.ofNat 32 ((s.2 - s.1) / 2)) = BitVec.ofNat 32 ((s.2 - s.1) / 2) from fun _ => rfl]
  exact (BitVec.ofNat_add _ _).symm

/-- A sum of ones and zeros counts the ones. -/
theorem sum_ones {N : ℕ} (q : Fin N → EReal) (t : EReal) : (∑ j, if t ≤ q j then (1 : EReal) else 0) = ((atLeast q t : ℕ) : EReal) := by
  classical
  unfold atLeast
  rw [Finset.sum_boole]

/-- The constant the count is compared with. -/
theorem sixtyFour : Ideal.ofBits .f32 0x42800000#32 = ((64 : ℕ) : EReal) := by
  have hu : units 0x42800000 = 2 ^ 155 := by decide +kernel
  show grid 0x42800000 = _
  rw [grid_eq (by decide), hu, ← EReal.coe_coe_eq_natCast]
  congr 1
  unfold TotalOrder.ulp
  rw [show (1 - (2 ^ (8 - 1) - 1 : ℤ) - (23 : ℕ)) = -149 by norm_num, zpow_neg,
    show ((2 : ℝ) ^ (149 : ℤ)) = 2 ^ 149 by norm_num, Nat.cast_pow, Nat.cast_ofNat, Nat.cast_ofNat]
  norm_num

/-- The body's test of a middle is whether the row has 64 entries that are at least the float32 number with the middle's bits. -/
theorem sel_count (p : Vec Ideal S128x24576 .f32) (lo hi : IVec S128x1 32) (r : Fin 128) {s : ℕ × ℕ} (hlo : lo (ix2 r 0) = BitVec.ofNat 32 s.1)
    (hhi : hi (ix2 r 0) = BitVec.ofNat 32 s.2) (h1 : s.1 ≤ s.2) (h2 : s.2 ≤ infBits) :
    k1_pay4 p lo hi (ix2 r 0) = BitVec.ofBool (decide (Reached (selRow p r) (middle s))) := by
  have hm := middle_word lo hi r hlo hhi h1 h2
  pointwise [k1_pay4, hm]
  refine congrArg BitVec.ofBool (decide_eq_decide.2 ?_)
  rw [show (∑ x, if Ideal.ofBits FTy.f32 (BitVec.ofNat 32 (middle s)) ≤ p (ix2 r x) then (1 : EReal) else 0)
    = ((atLeast (selRow p r) (grid (middle s)) : ℕ) : EReal) from sum_ones (selRow p r) (grid (middle s)), sixtyFour]
  exact EReal.natCast_le_iff

/-- In the row's place, the two words hold the ends `s`. -/
structure Holds (r : Fin 128) (a : IVec S128x1 32 × IVec S128x1 32) (s : ℕ × ℕ) : Prop where
  lo : a.1 (ix2 r 0) = BitVec.ofNat 32 s.1
  hi : a.2 (ix2 r 0) = BitVec.ofNat 32 s.2
  le : s.1 ≤ s.2
  top : s.2 ≤ infBits

/-- One round of the body's loop is one halving. -/
theorem Holds.step (p : Vec Ideal S128x24576 .f32) {r : Fin 128} {a : IVec S128x1 32 × IVec S128x1 32} {s : ℕ × ℕ} (h : Holds r a s) :
    Holds r (k1_pay5 p a.1 a.2, k1_pay6 p a.1 a.2) (halve (Reached (selRow p r)) s) := by
  have hm := middle_word a.1 a.2 r h.lo h.hi h.le h.top
  have hc := sel_count p a.1 a.2 r h.lo h.hi h.le h.top
  have hle := h.le
  have htop := h.top
  have e5 : k1_pay5 p a.1 a.2 (ix2 r 0) = Scalar.select (k1_pay4 p a.1 a.2 (ix2 r 0)) (k1_pay3 a.1 a.2 (ix2 r 0)) (a.1 (ix2 r 0)) := rfl
  have e6 : k1_pay6 p a.1 a.2 (ix2 r 0) = Scalar.select (k1_pay4 p a.1 a.2 (ix2 r 0)) (a.2 (ix2 r 0)) (k1_pay3 a.1 a.2 (ix2 r 0)) := rfl
  rw [hc, hm, h.lo] at e5
  rw [hc, hm, h.hi] at e6
  unfold halve
  by_cases hR : Reached (selRow p r) (middle s)
  · rw [if_pos hR]
    rw [decide_eq_true hR, show ∀ x y : BitVec 32, Scalar.select (BitVec.ofBool true) x y = x from fun _ _ => rfl] at e5 e6
    refine ⟨?_, ?_, by unfold middle; simp only; omega, htop⟩
    · dsimp only; rw [e5]
    · dsimp only; rw [e6]
  · rw [if_neg hR]
    rw [decide_eq_false hR, show ∀ x y : BitVec 32, Scalar.select (BitVec.ofBool false) x y = y from fun _ _ => rfl] at e5 e6
    refine ⟨?_, ?_, by unfold middle; simp only; omega, by unfold middle; simp only; omega⟩
    · dsimp only; rw [e5]
    · dsimp only; rw [e6]

/-- The loop is the iteration of the halving, as often as it has rounds. -/
theorem Holds.rounds (p : Vec Ideal S128x24576 .f32) {r : Fin 128} {ι : Type} (l : List ι) : ∀ {a : IVec S128x1 32 × IVec S128x1 32} {s : ℕ × ℕ},
    Holds r a s → Holds r (l.foldl (fun a _ => (k1_pay5 p a.1 a.2, k1_pay6 p a.1 a.2)) a) ((halve (Reached (selRow p r)))^[l.length] s) := by
  induction l with
  | nil => intro a s h; exact h
  | cons x l ih =>
    intro a s h
    rw [List.foldl_cons, List.length_cons, Function.iterate_succ_apply]
    exact ih (h.step p)

/-- The row's lower word after the loop is the word of the bisection's lower end. -/
theorem selEnds_low (p : Vec Ideal S128x24576 .f32) (r : Fin 128) : (selEnds p).1 (ix2 r 0) = BitVec.ofNat 32 (lowEnd (selRow p r)) := by
  have h0 : Holds r (k1_pay1, k1_pay2) (0, infBits) := ⟨rfl, rfl, Nat.zero_le _, Nat.le_refl _⟩
  have h := h0.rounds p (List.finRange k1_t1_loop.trips)
  rw [List.length_finRange, show k1_t1_loop.trips = 31 from rfl] at h
  unfold selEnds
  rw [Scf.fold_eq]
  exact h.lo

/-- What the body stores for a row is the row's threshold. -/
theorem sel_pay (p : Vec Ideal S128x24576 .f32) (r : Fin 128) : k1_pay7 (F := Ideal) (selEnds p).1 (ix2 r 0) = threshold (selRow p r) := by
  pointwise [k1_pay7]
  rw [selEnds_low p r]
  rfl

/-- The thresholds of all rows of an array of pre-activations. -/
def threshArr (Q : FVec Ideal S4096x24576 .f32) : FVec Ideal S4096x1 .f32 := fun i => threshold fun j => Q (ix2 (i 0) j)

/-- Which block each window has at a point. -/
theorem sel_idx : ∀ t : Fin cfg1.N, win1_0.index t = ![t.val, 0] ∧ win1_1.index t = ![t.val, 0] :=
  (by decide +kernel : ∀ t : Fin grid1.N, _)

variable (V : Entry Ideal)

/-- The array of thresholds after the call. -/
theorem sel_thresh (c : Dev nD) : (selDat V c).arrAt 1 cfg1.N = threshArr (V c main_v2_0) := by
  refine (selDat V c).arrAt_eq_of_covers 1 _ (by decide +kernel) fun t _ y => ?_
  blk_simp
  rw [sel_after1]
  unfold selOut
  frame_out
  idx_vars y
  obtain rfl : y1 = 0 := Subsingleton.elim _ _
  rw [sel_pay]
  unfold threshArr
  refine congrArg threshold (funext fun j => ?_)
  dsimp only [selRow]
  blk_ext [selBlk, sel_idx t]

end Cert.KernelIdeal.Value

end
-- ==== Proof.Value.Dec.lean ====
/-
  The array that the decoder call leaves: the latents against the decoder's matrix, the bias, the deviation and the mean.
-/
module

public import proofs.«01_k».proof.Proof.KernelIdeal.Dec
public import proofs.«01_k».proof.Proof.Math.Encode
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.KernelIdeal.Sae RowMath
open Idealize.ShloMosaic Idealize.ShloMosaic.TcCoe Idealize.SL.Sem
open Idealize.ShloMosaic.Pipeline (Dat)

/-- A latent: the pre-activation where it reaches the threshold, a negative one as zero; else zero. -/
def latent (q t : EReal) : EReal := if t ≤ q then max q 0 else 0

/-- The result at every row and column. -/
def outArr (Q : FVec Ideal S4096x24576 .f32) (Wd : FVec Ideal S24576x768 .f32) (T M S : FVec Ideal S4096x1 .f32) (B : FVec Ideal S1x768 .f32) :
    FVec Ideal S4096x768 .f32 :=
  fun i => ((∑ j, latent (Q (ix2 (i 0) j)) (T (ix2 (i 0) 0)) * Wd (ix2 j (i 1))) + B (ix2 0 (i 1))) * S (ix2 (i 0) 0) + M (ix2 (i 0) 0)

/-- The step's product. -/
theorem dec_pay1 (q : Vec Ideal S512x2048 .f32) (t : Vec Ideal S512x1 .f32) (w : Vec Ideal S2048x768 .f32) (r : Fin 512) (d : Fin 768) :
    k2_pay1 q t w (ix2 r d) = ∑ k, latent (q (ix2 r k)) (t (ix2 r 0)) * w (ix2 k d) := by
  pointwise [k2_pay1, latent]

/-- The product added to what the buffer holds. -/
theorem dec_pay2 (q : Vec Ideal S512x2048 .f32) (t : Vec Ideal S512x1 .f32) (w : Vec Ideal S2048x768 .f32) (acc : Vec Ideal S512x768 .f32)
    (r : Fin 512) (d : Fin 768) : k2_pay2 q t w acc (ix2 r d) = acc (ix2 r d) + ∑ k, latent (q (ix2 r k)) (t (ix2 r 0)) * w (ix2 k d) := by
  pointwise [k2_pay2, dec_pay1]

/-- The last step's bias, deviation and mean. -/
theorem dec_pay3 (a : Vec Ideal S512x768 .f32) (b : Vec Ideal S1x768 .f32) (s m : Vec Ideal S512x1 .f32) (r : Fin 512) (d : Fin 768) :
    k2_pay3 a b s m (ix2 r d) = (a (ix2 r d) + b (ix2 0 d)) * s (ix2 r 0) + m (ix2 r 0) := by
  pointwise [k2_pay3]

/-- Which block each window has at a point. -/
theorem dec_idx : ∀ t : Fin cfg2.N, win2_0.index t = ![t.val / 12, t.val % 12] ∧ win2_1.index t = ![t.val % 12, 0] ∧ win2_2.index t = ![t.val / 12, 0]
    ∧ win2_3.index t = ![t.val / 12, 0] ∧ win2_4.index t = ![t.val / 12, 0] ∧ win2_5.index t = ![0, 0] ∧ win2_6.index t = ![t.val / 12, 0] :=
  (by decide +kernel : ∀ t : Fin grid2.N, _)

variable (V : Entry Ideal)

/-- Latent `j` of row `a` times its weight for column `d`. -/
def decTerm (c : Dev nD) (a : Fin 4096) (d : Fin 768) (j : Fin 24576) : EReal :=
  latent (V c main_v2_0 (ix2 a j)) (V c main_v3 (ix2 a 0)) * V c main_arg2 (ix2 j d)

/-- The products of tile `n` of the latents, added. -/
def decTile (c : Dev nD) (a : Fin 4096) (d : Fin 768) (n : ℕ) : EReal :=
  ∑ k : Fin 2048, decTerm V c a d ⟨(n * 2048 + k.val) % 24576, Nat.mod_lt _ (by decide)⟩

/-- The array's row that row `r` of a point's blocks is. -/
def decRow (t : Fin cfg2.N) (r : Fin 512) : Fin 4096 :=
  ⟨t.val / 12 * 512 + r.val, by have := t.isLt; have := r.isLt; have : cfg2.N = 96 := rfl; omega⟩

/-- A step's product is its tile's sum. -/
theorem dec_tile (c : Dev nD) (t : Fin cfg2.N) (r : Fin 512) (d : Fin 768) :
    (∑ k : Fin 2048, latent (decBlk V c 0 t (ix2 r k)) (decBlk V c 2 t (ix2 r 0)) * decBlk V c 1 t (ix2 k d))
      = decTile V c (decRow t r) d (t.val % 12) := by
  refine Finset.sum_congr rfl fun k _ => ?_
  have hk := k.isLt
  unfold decTerm
  have e0 : decBlk V c 0 t (ix2 r k) = V c main_v2_0 (ix2 (decRow t r) ⟨(t.val % 12 * 2048 + k.val) % 24576, Nat.mod_lt _ (by decide)⟩) := by
    blk_ext [decBlk, decRow, dec_idx t]
  have e1 : decBlk V c 1 t (ix2 k d) = V c main_arg2 (ix2 ⟨(t.val % 12 * 2048 + k.val) % 24576, Nat.mod_lt _ (by decide)⟩ d) := by
    blk_ext [decBlk, decRow, dec_idx t]
  have e2 : decBlk V c 2 t (ix2 r 0) = V c main_v3 (ix2 (decRow t r) 0) := by
    blk_ext [decBlk, decRow, dec_idx t]
  rw [e0, e1, e2]

/-- Before a row tile's last step the buffer holds the sum over the tiles so far. -/
theorem dec_sum (c : Dev nD) (r : Fin 512) (d : Fin 768) : ∀ (s : ℕ) (t : Fin cfg2.N), s < 11 → t.val % 12 = s →
    decAcc V c t.val t.isLt (ix2 r d) = ∑ n ∈ Finset.range (s + 1), decTile V c (decRow t r) d n
  | 0, t, _, ht => by
    rw [decAcc_first V c t ht, dec_pay1, dec_tile, ht, Finset.sum_range_one]
  | s + 1, t, hs, ht => by
    have hlt : t.val - 1 < cfg2.N := Nat.lt_of_le_of_lt (Nat.sub_le _ _) t.isLt
    have hrow : decRow ⟨t.val - 1, hlt⟩ r = decRow t r := by
      apply Fin.ext; show (t.val - 1) / 12 * 512 + r.val = t.val / 12 * 512 + r.val; omega
    have ih := dec_sum c r d s ⟨t.val - 1, hlt⟩ (by omega) (by show (t.val - 1) % 12 = s; omega)
    rw [hrow] at ih
    rw [decAcc_mid V c t (by omega) (by omega), dec_pay2, dec_tile, ht, Finset.sum_range_succ _ (s + 1)]
    exact congrArg (· + _) ih

/-- What a row tile's last step leaves. -/
theorem dec_last (c : Dev nD) (t : Fin cfg2.N) (ht : t.val % 12 = 11) (r : Fin 512) (d : Fin 768) :
    decAcc V c t.val t.isLt (ix2 r d)
      = ((∑ j, decTerm V c (decRow t r) d j) + decBlk V c 5 t (ix2 0 d)) * decBlk V c 4 t (ix2 r 0) + decBlk V c 3 t (ix2 r 0) := by
  have hlt : t.val - 1 < cfg2.N := Nat.lt_of_le_of_lt (Nat.sub_le _ _) t.isLt
  have hrow : decRow ⟨t.val - 1, hlt⟩ r = decRow t r := by
    apply Fin.ext; show (t.val - 1) / 12 * 512 + r.val = t.val / 12 * 512 + r.val; omega
  have ih := dec_sum V c r d 10 ⟨t.val - 1, hlt⟩ (by decide) (by show (t.val - 1) % 12 = 10; omega)
  rw [hrow] at ih
  have hall : (∑ j, decTerm V c (decRow t r) d j) = ∑ n ∈ Finset.range 12, decTile V c (decRow t r) d n := by
    rw [Finset.sum_range, Fin.sum_univ_tiles 12 2048 rfl]
    refine Finset.sum_congr rfl fun n _ => Finset.sum_congr rfl fun k _ => congrArg _ (Fin.ext ?_)
    have := n.isLt; have := k.isLt
    show n.val * 2048 + k.val = (n.val * 2048 + k.val) % 24576
    omega
  rw [decAcc_last V c t ht, dec_pay3, dec_pay2, dec_tile, ht, hall, Finset.sum_range_succ _ 11]
  exact congrArg (fun z => (z + _ + _) * _ + _) ih

/-- The call leaves the result. -/
theorem dec_out (c : Dev nD) : (decDat V c).arrAt 6 cfg2.N
    = outArr (V c main_v2_0) (V c main_arg2) (V c main_v3) (V c main_v2_1) (V c main_v2_2) (V c main_v1) := by
  refine (decDat V c).arrAt_eq_of_covers 6 _ (by decide +kernel) fun t hfl y => ?_
  have ht := (flush2_6 t).1 hfl
  blk_simp
  rw [dec_after6]
  idx_vars y
  rw [dec_last V c t ht]
  have e3 : decBlk V c 3 t (ix2 y0 0) = V c main_v2_1 (ix2 (decRow t y0) 0) := by
    blk_ext [decBlk, decRow, dec_idx t]
  have e4 : decBlk V c 4 t (ix2 y0 0) = V c main_v2_2 (ix2 (decRow t y0) 0) := by
    blk_ext [decBlk, decRow, dec_idx t]
  have e5 : decBlk V c 5 t (ix2 0 y1) = V c main_v1 (ix2 0 y1) := by
    blk_ext [decBlk, decRow, dec_idx t]
  rw [e3, e4, e5]
  have h0 : (win2_6.blk t).view.emb (ix2 y0 y1) = ix2 (decRow t y0) y1 := by
    blk_ext [decRow, dec_idx t]
  refine Eq.trans ?_ (congrArg (outArr _ _ _ _ _ _) h0.symm)
  rfl

end Cert.KernelIdeal.Value

end
-- ==== Proof.Value.Kernel.lean ====
/-
  What the whole kernel leaves: the three calls' arrays, one in the next.
-/
module

public import proofs.«01_k».proof.Proof.KernelIdeal.Run
public import proofs.«01_k».proof.Proof.Value.Enc
public import proofs.«01_k».proof.Proof.Value.Sel
public import proofs.«01_k».proof.Proof.Value.Dec

@[expose] public section

set_option maxRecDepth 16384

noncomputable section

namespace Cert.KernelIdeal.Value

open Cert.KernelIdeal Cert.KernelIdeal.Gen Cert.KernelIdeal.Sae RowMath
open Idealize.ShloMosaic Idealize.ShloMosaic.TcCoe Idealize.SL.Sem

variable (m : (ℓ : Loc nD τ sig) → Buf (Elt Ideal) ℓ) (c : Dev nD)

/-- A row laid out as one row of two axes has the same entries. -/
theorem row_at {n : ℕ} (x : FVec Ideal ⟨1, ![n]⟩ .f32) (h : (⟨1, ![n]⟩ : Shape).ShapeCasts ⟨2, ![1, n]⟩) (j : Fin n) :
    shapeCast ⟨2, ![1, n]⟩ x h (ix2 0 j) = x (ix1 j) :=
  (shapeCast_addUnit_apply ![n] x h (ix2 0 j)).trans (congrArg x (funext fun a => by
    match a with
    | ⟨0, _⟩ => rfl))

/-- The encoder's bias as the one row that the call reads. -/
theorem entry_enc_bias (j : Fin 24576) : refs (atEnc m) c main_v0 (ix2 0 j) = m ((c.tc : Thread nD τ).loc main_arg3) (ix1 j) := by
  have h : refs (atEnc m) c main_v0 = shapeCast S1x24576 (m ((c.tc : Thread nD τ).loc main_arg3)) shapeCasts_S24576_S1x24576 := by
    show StableHlo.after hostOps0 (atLaunch m c) (Proc.devRef .tc main_v0) = _
    after_results
    rfl
  exact (congrFun h _).trans (row_at _ _ _)

/-- The decoder's bias as the one row that the call reads. -/
theorem entry_dec_bias (d : Fin 768) : refs (atEnc m) c main_v1 (ix2 0 d) = m ((c.tc : Thread nD τ).loc main_arg4) (ix1 d) := by
  have h : refs (atEnc m) c main_v1 = shapeCast S1x768 (m ((c.tc : Thread nD τ).loc main_arg4)) shapeCasts_S768_S1x768 := by
    show StableHlo.after hostOps0 (atLaunch m c) (Proc.devRef .tc main_v1) = _
    after_results
    rfl
  exact (congrFun h _).trans (row_at _ _ _)

/-- The pre-activations after the encoder call. -/
theorem sel_entry (r : Fin 4096) (j : Fin 24576) : refs (atSel m) c main_v2_0 (ix2 r j)
    = preRow (m ((c.tc : Thread nD τ).loc main_arg0)) (m ((c.tc : Thread nD τ).loc main_arg1)) (m ((c.tc : Thread nD τ).loc main_arg3)) r j := by
  have h := (atSel_arr m c 3).trans (enc_pre (refs (atEnc m)) c)
  have h0 : refs (atEnc m) c main_arg0 = m ((c.tc : Thread nD τ).loc main_arg0) := atEnc_args m c main_arg0 (by decide)
  have h1 : refs (atEnc m) c main_arg1 = m ((c.tc : Thread nD τ).loc main_arg1) := atEnc_args m c main_arg1 (by decide)
  refine (congrFun h (ix2 r j)).trans ?_
  show activation (fun k => refs (atEnc m) c main_arg0 (ix2 r k)) (fun k => refs (atEnc m) c main_arg1 (ix2 k j)) (refs (atEnc m) c main_v0 (ix2 0 j)) = _
  rw [h0, h1, entry_enc_bias m c j]
  rfl

/-- The result at a row and column, over the arguments. -/
theorem result_at (r : Fin 4096) (d : Fin 768) : refs (atEnd m) c main_v4 (ix2 r d)
    = decoded (fun j => latent (preRow (m ((c.tc : Thread nD τ).loc main_arg0)) (m ((c.tc : Thread nD τ).loc main_arg1)) (m ((c.tc : Thread nD τ).loc main_arg3)) r j)
        (threshold (preRow (m ((c.tc : Thread nD τ).loc main_arg0)) (m ((c.tc : Thread nD τ).loc main_arg1)) (m ((c.tc : Thread nD τ).loc main_arg3)) r)))
      (fun j => m ((c.tc : Thread nD τ).loc main_arg2) (ix2 j d)) (m ((c.tc : Thread nD τ).loc main_arg4) (ix1 d))
      (deviation fun k => m ((c.tc : Thread nD τ).loc main_arg0) (ix2 r k)) (mean fun k => m ((c.tc : Thread nD τ).loc main_arg0) (ix2 r k)) := by
  have h := (atEnd_arr m c 6).trans (dec_out (refs (atDec m)) c)
  have h0 : refs (atEnc m) c main_arg0 = m ((c.tc : Thread nD τ).loc main_arg0) := atEnc_args m c main_arg0 (by decide)
  have hq : refs (atDec m) c main_v2_0 = refs (atSel m) c main_v2_0 := atDec_keeps m c main_v2_0 (by decide +kernel)
  have ht : refs (atDec m) c main_v3 = threshArr (refs (atSel m) c main_v2_0) := (atDec_arr m c 1).trans (sel_thresh (refs (atSel m)) c)
  have hw : refs (atDec m) c main_arg2 = m ((c.tc : Thread nD τ).loc main_arg2) := atDec_args m c main_arg2 (by decide)
  have hm : refs (atDec m) c main_v2_1 = meanArr (m ((c.tc : Thread nD τ).loc main_arg0)) :=
    (atDec_keeps m c main_v2_1 (by decide +kernel)).trans (((atSel_arr m c 4).trans (enc_mean (refs (atEnc m)) c)).trans (congrArg meanArr h0))
  have hs : refs (atDec m) c main_v2_2 = stdArr (m ((c.tc : Thread nD τ).loc main_arg0)) :=
    (atDec_keeps m c main_v2_2 (by decide +kernel)).trans (((atSel_arr m c 5).trans (enc_std (refs (atEnc m)) c)).trans (congrArg stdArr h0))
  have hb : refs (atDec m) c main_v1 = refs (atEnc m) c main_v1 :=
    (atDec_keeps m c main_v1 (by decide +kernel)).trans (atSel_keeps m c main_v1 (by decide +kernel))
  rw [hq, ht, hw, hm, hs, hb] at h
  refine (congrFun h (ix2 r d)).trans ?_
  show ((∑ j, latent (refs (atSel m) c main_v2_0 (ix2 r j)) (threshold fun j => refs (atSel m) c main_v2_0 (ix2 r j))
      * m ((c.tc : Thread nD τ).loc main_arg2) (ix2 j d)) + refs (atEnc m) c main_v1 (ix2 0 d))
      * (deviation fun k => m ((c.tc : Thread nD τ).loc main_arg0) (ix2 r k)) + (mean fun k => m ((c.tc : Thread nD τ).loc main_arg0) (ix2 r k)) = _
  have hrow : (fun j => refs (atSel m) c main_v2_0 (ix2 r j))
      = preRow (m ((c.tc : Thread nD τ).loc main_arg0)) (m ((c.tc : Thread nD τ).loc main_arg1)) (m ((c.tc : Thread nD τ).loc main_arg3)) r :=
    funext fun j => sel_entry m c r j
  rw [hrow, entry_dec_bias m c d]
  unfold decoded
  simp only [sel_entry m c r]

end Cert.KernelIdeal.Value

end
-- ==== Proof.Value.Order.lean ====
/-
  The host's top-k of a row over exact floats: the first places of the row sorted by falling entries.
-/
module

public import proofs.«01_k».proof.Proof.Math.Rank
public import Idealize.ShloMosaic.Lib.SortFacts
public import Idealize.ShloMosaic.Lib.Pointwise

@[expose] public section

set_option maxRecDepth 16384

noncomputable section

namespace RowMath

open Idealize.ShloMosaic

/-- The positions of a row by falling entries, equal entries by position. -/
def order (q : Fin 24576 → EReal) : Fin 24576 → Fin 24576 :=
  sortedFrom fun k k' => (FloatOps.cmpfTotal (F := Ideal) (φ := .f32) .gt (q k) (q k')) == 1#1

/-- The comparison decides the strict order. -/
theorem greater_iff (a b : EReal) : ((FloatOps.cmpfTotal (F := Ideal) (φ := .f32) .gt a b) == 1#1) = true ↔ b < a := by
  show (BitVec.ofBool (decide (b < a)) == 1#1) = true ↔ b < a
  by_cases h : b < a
  · simp [h]
  · simp [h]

/-- It sorts the row. -/
theorem order_sorts (q : Fin 24576 → EReal) : Sorts q (order q) where
  inj := sortedFrom_injective _
  surj := sortedFrom_surjective _
  falls i j hij := by
    have hno : ∀ a b : EReal, ((FloatOps.cmpfTotal (F := Ideal) (φ := .f32) .gt a b) == 1#1) = false ↔ a ≤ b := fun a b => by
      rw [← not_lt, ← greater_iff a b, Bool.not_eq_true]
    have h := sortedFrom_noInversion (fun k k' => (FloatOps.cmpfTotal (F := Ideal) (φ := .f32) .gt (q k) (q k')) == 1#1)
      (fun k k' => (FloatOps.cmpfTotal (F := Ideal) (φ := .f32) .gt (q k) (q k')) == 1#1)
      (fun a b hab => (hno _ _).2 ((greater_iff _ _).1 hab).le) (fun a b hab => hab)
      (fun a b c hab hbc => (hno _ _).2 (((hno _ _).1 hab).trans ((hno _ _).1 hbc))) i j hij
    exact (hno _ _).1 h

/-- The array's row and column axes. -/
abbrev Wide : Shape := ⟨2, ![4096, 24576]⟩

/-- Replacing a position of a row gives the other position. -/
theorem along_row (r : Fin 4096) (j : Fin 24576) (k : Fin (Wide.size (1 : Fin 2))) :
    Shape.Idx.along (s := Wide) (ix2 r j) (1 : Fin 2) k = ix2 r (show Fin 24576 from k) := by
  funext a
  match a with
  | ⟨0, _⟩ => rfl
  | ⟨1, _⟩ => rfl

/-- An entry of the sorted array. -/
theorem sort_value (x : FVec Ideal Wide .f32) (y : IVec Wide 32) (r : Fin 4096) (j : Fin 24576) :
    (Host.sort2 Wide 1 (fun l r => FloatOps.cmpfTotal (F := Ideal) (φ := .f32) .gt l.1 r.1) x y).1 (ix2 r j)
      = x (ix2 r (order (fun j => x (ix2 r j)) j)) := by
  show x (Shape.Idx.along (s := Wide) (ix2 r j) (1 : Fin 2) (sortedFrom (fun k k' => FloatOps.cmpfTotal (F := Ideal) (φ := .f32) .gt
    (x (Shape.Idx.along (s := Wide) (ix2 r j) (1 : Fin 2) k)) (x (Shape.Idx.along (s := Wide) (ix2 r j) (1 : Fin 2) k')) == 1#1) j)) = _
  simp only [along_row]
  rfl

/-- An entry of the positions sorted with it. -/
theorem sort_position (x : FVec Ideal Wide .f32) (y : IVec Wide 32) (r : Fin 4096) (j : Fin 24576) :
    (Host.sort2 Wide 1 (fun l r => FloatOps.cmpfTotal (F := Ideal) (φ := .f32) .gt l.1 r.1) x y).2 (ix2 r j)
      = y (ix2 r (order (fun j => x (ix2 r j)) j)) := by
  show y (Shape.Idx.along (s := Wide) (ix2 r j) (1 : Fin 2) (sortedFrom (fun k k' => FloatOps.cmpfTotal (F := Ideal) (φ := .f32) .gt
    (x (Shape.Idx.along (s := Wide) (ix2 r j) (1 : Fin 2) k)) (x (Shape.Idx.along (s := Wide) (ix2 r j) (1 : Fin 2) k')) == 1#1) j)) = _
  simp only [along_row]
  rfl

variable {K : ℕ} (x : FVec Ideal Wide .f32)
  (h : Wide.Slices (fun _ => 0) ⟨2, ![4096, K]⟩)

/-- An entry of the first columns. -/
theorem slice_at {α : Type} (z : Wide.Idx → α) (r : Fin 4096) (k : Fin K) (hk : k.val < 24576) :
    extractStridedSlice ⟨2, ![4096, K]⟩ (fun _ => 0) z h (ix2 r k) = z (ix2 r ⟨k.val, hk⟩) := by
  unfold extractStridedSlice
  refine congrArg z (funext fun a => ?_)
  match a with
  | ⟨0, _⟩ => exact Fin.ext (Nat.zero_add _)
  | ⟨1, _⟩ => exact Fin.ext (Nat.zero_add _)

/-- The value at place `k` of a row's greatest. -/
theorem topK_value (r : Fin 4096) (k : Fin K) (hk : k.val < 24576) :
    (Host.topK ⟨2, ![4096, K]⟩ 1 (FloatOps.cmpfTotal (F := Ideal) (φ := .f32) .gt) x h).1 (ix2 r k)
      = x (ix2 r (order (fun j => x (ix2 r j)) ⟨k.val, hk⟩)) := by
  unfold Host.topK
  dsimp only
  exact (slice_at h _ r k hk).trans (sort_value x (fun i => if hd : 1 < Wide.rank then iotaInDim Wide 32 ⟨1, hd⟩ i else 0#32) r ⟨k.val, hk⟩)

/-- The position of the value at place `k` of a row's greatest. -/
theorem topK_position (r : Fin 4096) (k : Fin K) (hk : k.val < 24576) :
    (Host.topK ⟨2, ![4096, K]⟩ 1 (FloatOps.cmpfTotal (F := Ideal) (φ := .f32) .gt) x h).2 (ix2 r k)
      = BitVec.ofNat 32 (order (fun j => x (ix2 r j)) ⟨k.val, hk⟩).val := by
  unfold Host.topK
  dsimp only
  exact (slice_at h _ r k hk).trans (sort_position x (fun i => if hd : 1 < Wide.rank then iotaInDim Wide 32 ⟨1, hd⟩ i else 0#32) r ⟨k.val, hk⟩)

end RowMath

end
-- ==== Proof.Value.Ref.lean ====
/-
  The reference's result, row by row: the latents it keeps are the first 64 of the row sorted by falling entries.
-/
module

public import proofs.«01_k».proof.Proof.Gen.ReferenceIdeal.Run
public import proofs.«01_k».proof.Proof.Math.Encode
public import proofs.«01_k».proof.Proof.Value.Order
public import Idealize.ShloMosaic.Lib.ScatterToDense.RefScatter

@[expose] public section

set_option maxRecDepth 16384

noncomputable section

namespace Cert.ReferenceIdeal.Rows

open Cert.ReferenceIdeal Cert.ReferenceIdeal.Gen RowMath
open Idealize.ShloMosaic Idealize.ShloMosaic.TcCoe Idealize.SL.Sem

variable (X : FVec Ideal S4096x768 .f32) (We : FVec Ideal S768x24576 .f32) (Wd : FVec Ideal S24576x768 .f32) (Be : FVec Ideal S24576 .f32)
  (Bd : FVec Ideal S768 .f32)

/-- The means as the program computes them. -/
def means : FVec Ideal S4096x1 .f32 :=
  Host.divf (broadcastInDim S4096x1 ![0] bcast_S4096_S4096x1_0 (Host.reduceAdd X (constant S_ .f32 0x00000000#32) reducesTo_S4096x768_S4096_d1 h_S_))
    (broadcastInDim S4096x1 ![] bcast_S_S4096x1 (constant S_ .f32 0x44400000#32))

/-- The centered rows. -/
def centered : FVec Ideal S4096x768 .f32 := subf X (broadcastInDim S4096x768 ![0, 1] bcast_S4096x1_S4096x768_0_1 (means X))

/-- The variances. -/
def variances : FVec Ideal S4096x1 .f32 :=
  Host.divf (broadcastInDim S4096x1 ![0] bcast_S4096_S4096x1_0 (Host.reduceAdd (mulf (centered X) (centered X)) (constant S_ .f32 0x00000000#32)
      reducesTo_S4096x768_S4096_d1 h_S_)) (broadcastInDim S4096x1 ![] bcast_S_S4096x1 (constant S_ .f32 0x44400000#32))

/-- The pre-activations. -/
def pres : FVec Ideal S4096x24576 .f32 :=
  addf (Host.dotGeneral dot_S4096x768_S768x24576_S4096x24576_1_0_0_1_n_n none
      (Host.divf (centered X) (broadcastInDim S4096x768 ![0, 1] bcast_S4096x1_S4096x768_0_1 (Host.sqrt (addf (variances X)
        (broadcastInDim S4096x1 ![] bcast_S_S4096x1 (constant S_ .f32 0x3727C5AC#32)))))) We)
    (broadcastInDim S4096x24576 ![0, 1] bcast_S1x24576_S4096x24576_0_1 (broadcastInDim S1x24576 ![1] bcast_S24576_S1x24576_1 Be))

/-- The greatest of each row and their positions. -/
def best (Q : FVec Ideal S4096x24576 .f32) : FVec Ideal S4096x64 .f32 × IVec S4096x64 32 :=
  Host.topK S4096x64 1 (FloatOps.cmpfTotal .gt) Q sliceFits_S4096x24576_S4096x64

/-- The row of each update, an index below zero counted from the end. -/
def rowWords : IVec S4096x1 32 :=
  select (cmpi .slt (broadcastInDim S4096x1 ![0] bcast_S4096_S4096x1_0 (iotaInDim S4096 32 0)) (broadcastInDim S4096x1 ![] bcast_S_S4096x1 (constantI S_ 32 0#32)))
    (addi (broadcastInDim S4096x1 ![0] bcast_S4096_S4096x1_0 (iotaInDim S4096 32 0)) (broadcastInDim S4096x1 ![] bcast_S_S4096x1 (constantI S_ 32 4096#32)))
    (broadcastInDim S4096x1 ![0] bcast_S4096_S4096x1_0 (iotaInDim S4096 32 0))

/-- The column of each update, an index below zero counted from the end. -/
def colWords (p : IVec S4096x64 32) : IVec S4096x64 32 :=
  select (cmpi .slt p (broadcastInDim S4096x64 ![] bcast_S_S4096x64 (constantI S_ 32 0#32)))
    (addi p (broadcastInDim S4096x64 ![] bcast_S_S4096x64 (constantI S_ 32 24576#32))) p

/-- Row and column of each update. -/
def pairs (p : IVec S4096x64 32) : IVec S4096x64x2 32 :=
  concatenate S4096x64x2 2
    [⟨S4096x64x1, broadcastInDim S4096x64x1 ![0, 1] bcast_S4096x64_S4096x64x1_0_1 (broadcastInDim S4096x64 ![0, 1] bcast_S4096x1_S4096x64_0_1 rowWords)⟩,
      ⟨S4096x64x1, broadcastInDim S4096x64x1 ![0, 1] bcast_S4096x64_S4096x64x1_0_1 (colWords p)⟩] concatenates_S4096x64x1_S4096x64x1_S4096x64x2_d2

/-- The latents. -/
def kept (Q : FVec Ideal S4096x24576 .f32) : FVec Ideal S4096x24576 .f32 :=
  Host.scatter scatter_S4096x24576_S4096x64x2_S4096x64_n_01_01_2 (fun _ b => b)
    (broadcastInDim S4096x24576 ![] bcast_S_S4096x24576 (constant S_ .f32 0x00000000#32)) (pairs (best Q).2)
    (maximumf (best Q).1 (broadcastInDim S4096x64 ![] bcast_S_S4096x64 (constant S_ .f32 0x00000000#32)))

/-- The result of latents. -/
def decodedArr (L : FVec Ideal S4096x24576 .f32) : FVec Ideal S4096x768 .f32 :=
  addf (mulf (addf (Host.dotGeneral dot_S4096x24576_S24576x768_S4096x768_1_0_0_1_n_n none L Wd)
      (broadcastInDim S4096x768 ![0, 1] bcast_S1x768_S4096x768_0_1 (broadcastInDim S1x768 ![1] bcast_S768_S1x768_1 Bd)))
    (broadcastInDim S4096x768 ![0, 1] bcast_S4096x1_S4096x768_0_1 (Host.sqrt (variances X))))
    (broadcastInDim S4096x768 ![0, 1] bcast_S4096x1_S4096x768_0_1 (means X))

/-- The run's result is these steps in order. -/
theorem result_eq (m : (ℓ : Loc nD τ sig) → Buf (Elt Ideal) ℓ) (c : Dev nD) : Value.res_main_v47 m c
    = decodedArr (m ((c.tc : Thread nD τ).loc main_arg0)) (m ((c.tc : Thread nD τ).loc main_arg2)) (m ((c.tc : Thread nD τ).loc main_arg4))
        (kept (pres (m ((c.tc : Thread nD τ).loc main_arg0)) (m ((c.tc : Thread nD τ).loc main_arg1)) (m ((c.tc : Thread nD τ).loc main_arg3)))) := by
  unfold Value.res_main_v47
  rfl

/-- A row's mean. -/
theorem means_at (r : Fin 4096) (u : Fin 1) : means X (ix2 r u) = mean fun k => X (ix2 r k) := by
  pointwise [means, mean]

/-- A centered entry. -/
theorem centered_at (r : Fin 4096) (k : Fin 768) : centered X (ix2 r k) = X (ix2 r k) - mean fun k => X (ix2 r k) := by
  pointwise [centered, means_at]

/-- A row's variance. -/
theorem variances_at (r : Fin 4096) (u : Fin 1) : variances X (ix2 r u) = variance fun k => X (ix2 r k) := by
  pointwise [variances, centered_at, variance]

/-- A pre-activation. -/
theorem pres_at (r : Fin 4096) (j : Fin 24576) : pres X We Be (ix2 r j) = activation (fun k => X (ix2 r k)) (fun k => We (ix2 k j)) (Be (ix1 j)) := by
  pointwise [pres, centered_at, variances_at, activation, normed]

/-- The result of latents at a row and column. -/
theorem decodedArr_at (L : FVec Ideal S4096x24576 .f32) (r : Fin 4096) (d : Fin 768) : decodedArr X Wd Bd L (ix2 r d)
    = ((∑ j, L (ix2 r j) * Wd (ix2 j d)) + Bd (ix1 d)) * (deviation fun k => X (ix2 r k)) + mean fun k => X (ix2 r k) := by
  pointwise [decodedArr, means_at, variances_at, deviation]

/-- Row `r` of an array. -/
def rowOf (Q : FVec Ideal S4096x24576 .f32) (r : Fin 4096) : Fin 24576 → EReal := fun j => Q (ix2 r j)

/-- Place `k` of a sorted row, counted around. -/
def place (k : ℕ) : Fin 24576 := ⟨k % 24576, Nat.mod_lt _ (by decide)⟩

/-- Within the row it is the place itself. -/
theorem place_of_lt (k : ℕ) (h : k < 24576) : place k = ⟨k, h⟩ := Fin.ext (Nat.mod_eq_of_lt h)

variable (Q : FVec Ideal S4096x24576 .f32)

/-- The value at one of a row's 64 greatest places. -/
theorem best_value (r : Fin 4096) (k : Fin 64) : (best Q).1 (ix2 r k) = rowOf Q r (order (rowOf Q r) (place k.val)) := by
  have hk : k.val < 24576 := k.isLt.trans (by decide)
  rw [place_of_lt _ hk]
  exact topK_value Q sliceFits_S4096x24576_S4096x64 r k hk

/-- The column that it stands in. -/
theorem best_position (r : Fin 4096) (k : Fin 64) : (best Q).2 (ix2 r k) = BitVec.ofNat 32 (order (rowOf Q r) (place k.val)).val := by
  have hk : k.val < 24576 := k.isLt.trans (by decide)
  rw [place_of_lt _ hk]
  exact topK_position Q sliceFits_S4096x24576_S4096x64 r k hk

/-- A number below `2 ^ 31` as a word. -/
theorem word_toNat {n : ℕ} (h : n < 2 ^ 31) : (BitVec.ofNat 32 n).toNat = n := by
  rw [BitVec.toNat_ofNat]; exact Nat.mod_eq_of_lt (h.trans (by decide))

/-- The first index of an update is its row. -/
theorem pairs_row (p : IVec S4096x64 32) (r : Fin 4096) (k : Fin 64) : pairs p (ix3 r k (0 : Fin 2)) = BitVec.ofNat 32 r.val := by
  unfold pairs rowWords
  pointwise
  exact Routing.wrap_of_lt _ _ (by
    rw [word_toNat (r.isLt.trans (by decide))]
    exact r.isLt.trans (by decide))

/-- The second is its column. -/
theorem pairs_col (p : IVec S4096x64 32) (r : Fin 4096) (k : Fin 64) (h : (p (ix2 r k)).toNat < 2 ^ 31) : pairs p (ix3 r k (1 : Fin 2)) = p (ix2 r k) := by
  unfold pairs colWords
  pointwise
  exact Routing.wrap_of_lt _ _ h

/-- The latent at the place that the sorted row has at `i`: the entry, a negative one as zero, at the first 64 places, else zero. -/
theorem kept_at (r : Fin 4096) (i : Fin 24576) : kept Q (ix2 r (order (rowOf Q r) i))
    = if i.val < 64 then max (rowOf Q r (order (rowOf Q r) i)) 0 else 0 := by
  have hlt : ∀ (r : Fin 4096) (k : ℕ), (order (rowOf Q r) (place k)).val < 2 ^ 31 := fun r k => (Fin.isLt _).trans (by decide)
  have h := ScatterToDense.scatter_eq_GS scatter_S4096x24576_S4096x64x2_S4096x64_n_01_01_2 rfl rfl rfl (by decide) (by decide)
    (broadcastInDim S4096x24576 ![] bcast_S_S4096x24576 (constant (F := Ideal) S_ .f32 0x00000000#32)) (pairs (best Q).2)
    (maximumf (best Q).1 (broadcastInDim S4096x64 ![] bcast_S_S4096x64 (constant S_ .f32 0x00000000#32)))
    (fun r k => BitVec.ofNat 32 (order (rowOf Q r) (place k)).val) (fun r k => max (rowOf Q r (order (rowOf Q r) (place k))) 0)
    (fun r k => pairs_row _ r k)
    (fun r k => (pairs_col _ r k (by rw [best_position, word_toNat (hlt r _)]; exact hlt r _)).trans (best_position Q r k))
    (fun r k => by
      have e := best_value Q r k
      pointwise
      exact congrArg (max · 0) e) r (order (rowOf Q r) i)
  refine h.trans ?_
  unfold ScatterToDense.GS
  by_cases hi : i.val < 64
  · rw [if_pos hi]
    refine (LaneScatter.lastHit_of_last _ _ (k := i.val) ?_ hi fun k h1 h2 he => ?_).trans ?_
    · rw [word_toNat (hlt r _), place_of_lt _ i.isLt]
    · rw [word_toNat (hlt r _)] at he
      have := (order_sorts (rowOf Q r)).inj (Fin.ext he)
      have := congrArg Fin.val this
      rw [place_of_lt k (by omega)] at this
      simp only at this
      omega
    · rw [place_of_lt _ i.isLt]
  · rw [if_neg hi]
    refine (LaneScatter.lastHit_of_none _ _ fun k hk he => ?_).trans ?_
    · rw [word_toNat (hlt r _)] at he
      have := (order_sorts (rowOf Q r)).inj (Fin.ext he)
      have := congrArg Fin.val this
      rw [place_of_lt k (by omega)] at this
      simp only at this
      omega
    · pointwise

/-- The row of pre-activations. -/
theorem pres_row (r : Fin 4096) : rowOf (pres X We Be) r = preRow X We Be r := funext fun j => pres_at X We Be r j

/-- The steps' result at a row and column, for any row of latents that agrees with the first 64 places of the sorted row. -/
theorem steps_at (r : Fin 4096) (d : Fin 768) (l : Fin 24576 → EReal)
    (hl : ∀ i, l (order (preRow X We Be r) i) = if i.val < 64 then max (preRow X We Be r (order (preRow X We Be r) i)) 0 else 0) :
    decodedArr X Wd Bd (kept (pres X We Be)) (ix2 r d)
      = decoded l (fun j => Wd (ix2 j d)) (Bd (ix1 d)) (deviation fun k => X (ix2 r k)) (mean fun k => X (ix2 r k)) := by
  have hk : ∀ j, kept (pres X We Be) (ix2 r j) = l j := fun j => by
    obtain ⟨i, rfl⟩ := (order_sorts (preRow X We Be r)).surj j
    have h := kept_at (pres X We Be) r i
    rw [pres_row] at h
    exact h.trans (hl i).symm
  rw [decodedArr_at]
  simp only [hk]
  rfl

/-- The run's result at a row and column, over the arguments. -/
theorem result_at (m : (ℓ : Loc nD τ sig) → Buf (Elt Ideal) ℓ) (c : Dev nD) (r : Fin 4096) (d : Fin 768) (l : Fin 24576 → EReal)
    (hl : ∀ i, l (order (preRow (m ((c.tc : Thread nD τ).loc main_arg0)) (m ((c.tc : Thread nD τ).loc main_arg1)) (m ((c.tc : Thread nD τ).loc main_arg3)) r) i)
      = if i.val < 64 then max (preRow (m ((c.tc : Thread nD τ).loc main_arg0)) (m ((c.tc : Thread nD τ).loc main_arg1)) (m ((c.tc : Thread nD τ).loc main_arg3)) r
          (order (preRow (m ((c.tc : Thread nD τ).loc main_arg0)) (m ((c.tc : Thread nD τ).loc main_arg1)) (m ((c.tc : Thread nD τ).loc main_arg3)) r) i)) 0 else 0) :
    Value.res_main_v47 m c (ix2 r d)
      = decoded l (fun j => m ((c.tc : Thread nD τ).loc main_arg2) (ix2 j d)) (m ((c.tc : Thread nD τ).loc main_arg4) (ix1 d))
          (deviation fun k => m ((c.tc : Thread nD τ).loc main_arg0) (ix2 r k)) (mean fun k => m ((c.tc : Thread nD τ).loc main_arg0) (ix2 r k)) :=
  (congrFun (result_eq m c) (ix2 r d)).trans (steps_at _ _ _ _ _ r d l hl)

end Cert.ReferenceIdeal.Rows

end
-- ==== Proof.Value.Mask.lean ====
/-
  What a selected row has: its entry at place 64 of the sorted row is far enough below the one at place 63, or not positive.
-/
module

public import proofs.«01_k».proof.Proof.Gen.On_separated
public import proofs.«01_k».proof.Proof.Math.Latents
public import proofs.«01_k».proof.Proof.Math.Encode
public import proofs.«01_k».proof.Proof.Value.Order
public import proofs.«01_k».proof.Proof.Value.Ref

@[expose] public section

set_option maxRecDepth 16384

noncomputable section

namespace Cert.On_separated.Rows

open Cert.On_separated Cert.On_separated.Gen RowMath
open Idealize.ShloMosaic

variable (X : FVec Ideal S4096x768 .f32) (We : FVec Ideal S768x24576 .f32) (Wd : FVec Ideal S24576x768 .f32) (Be : FVec Ideal S24576 .f32)
  (Bd : FVec Ideal S768 .f32)

/-- What the row's selection asks of its entries `a` at place 63 and `b` at place 64. -/
def Apart (a b : EReal) : Prop := b ≤ 0 ∨ b + max (min a greatest * part) leastNormal ≤ min a greatest

/-- The selection's word is set only where the row's entries are apart. -/
theorem apart_of_word (a b : EReal) (h : IntOp.ori (BitVec.ofBool (decide (b ≤ 0)))
    (BitVec.ofBool (decide (b + max (min a greatest * part) leastNormal ≤ min a greatest))) = 1#1) : Apart a b := by
  unfold Apart
  by_cases h1 : b ≤ 0
  · exact Or.inl h1
  · by_cases h2 : b + max (min a greatest * part) leastNormal ≤ min a greatest
    · exact Or.inr h2
    · rw [decide_eq_false h1, decide_eq_false h2] at h
      exact absurd h (by decide)

/-- The selection in the values that the host's top-k returns. -/
theorem part1_at (u v : FVec Ideal S4096x24576 .f32) (r : Fin 4096) (d : Fin 768) (h : fn_part1 (F := Ideal) u v (ix2 r d) = 1#1) :
    Apart ((addf u v : FVec Ideal S4096x24576 .f32) (ix2 r (order (fun j => (addf u v : FVec Ideal S4096x24576 .f32) (ix2 r j)) ⟨63, by decide⟩)))
      ((addf u v : FVec Ideal S4096x24576 .f32) (ix2 r (order (fun j => (addf u v : FVec Ideal S4096x24576 .f32) (ix2 r j)) ⟨64, by decide⟩))) := by
  have e63 := topK_value (addf u v) sliceFits_S4096x24576_S4096x65 r (63 : Fin 65) (by decide)
  have e64 := topK_value (addf u v) sliceFits_S4096x24576_S4096x65 r (64 : Fin 65) (by decide)
  unfold fn_part1 at h
  dsimp only at h
  pointwise at h
  have h' := apart_of_word _ _ h
  rw [e63, e64] at h'
  exact h'

/-- A selected row's entries at places 63 and 64 of the sorted row of pre-activations are apart. -/
theorem apart (r : Fin 4096) (d : Fin 768) (h : fn (F := Ideal) X We Wd Be Bd (ix2 r d) = 1#1) :
    Apart (preRow X We Be r (order (preRow X We Be r) ⟨63, by decide⟩)) (preRow X We Be r (order (preRow X We Be r) ⟨64, by decide⟩)) := by
  unfold fn at h
  have h' := part1_at _ _ r d h
  rw [← Cert.ReferenceIdeal.Rows.pres_row]
  exact h'

end Cert.On_separated.Rows

end
-- ==== Proof.lean ====
/- The certificate's claims from the kernel's runs (Kernel/Run, KernelIdeal/Run) and the reference's. -/
module

public import proofs.«01_k».proof.Defs
public import proofs.«01_k».proof.Proof.Gen.Kernel
public import proofs.«01_k».proof.Proof.Gen.KernelIdeal
public import proofs.«01_k».proof.Proof.Gen.On_separated
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Kernel
public import proofs.«01_k».proof.Proof.Value.Ref
public import proofs.«01_k».proof.Proof.Value.Mask
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel leaves its arguments as launched and every counter at zero. -/
theorem kernel_frame : Cert.quiescent_Kernel (hKernel := Cert.Kernel.Gen.facts) := fun m g _ => Cert.Kernel.Sae.framed m g

/-- The same over exact floats. -/
theorem ideal_frame : Cert.quiescent_KernelIdeal (hKernelIdeal := Cert.KernelIdeal.Gen.facts) := fun m g _ => Cert.KernelIdeal.Sae.framed m g

set_option maxHeartbeats 2000000 in
/-- Every run of the reference leaves its arguments as launched and every counter at zero. -/
theorem reference_frame : Cert.quiescent_ReferenceIdeal (hReferenceIdeal := Cert.ReferenceIdeal.Gen.facts) := by
  intro m g _
  exact (θ_run _ _ _).mono (fun r h => ⟨fun c => (h c).2, sem_eq_zero_of_no_sems rfl r.2⟩) (Cert.ReferenceIdeal.Value.run (F := Ideal) m g)

/-- On a selected row the kernel's result is the reference's, over the same arguments. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (i : (⟨2, ![4096, 768]⟩ : Shape).Idx)
    (hi : Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) i = 1#1) :
    Cert.ReferenceIdeal.Value.res_main_v47 m' c i = Cert.KernelIdeal.Sae.refs (Cert.KernelIdeal.Sae.atEnd m) c Cert.KernelIdeal.main_v4 i := by
  obtain ⟨r, d, rfl⟩ : ∃ (r : Fin 4096) (d : Fin 768), i = ix2 r d := ⟨i 0, i 1, eq_ix2 i⟩
  have hap := Cert.On_separated.Rows.apart _ _ _ _ _ r d hi
  have hlat := RowMath.latents (RowMath.order_sorts _) (k := ⟨63, by decide⟩) (k' := ⟨64, by decide⟩) rfl rfl hap
  refine (Cert.ReferenceIdeal.Rows.result_at m' c r d (fun j => Cert.KernelIdeal.Value.latent
    (RowMath.preRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) r j)
    (RowMath.threshold (RowMath.preRow (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) r))) ?_).trans ?_
  · rw [h0, h1, h3]
    exact hlat
  · rw [h0, h2, h4]
    exact (Cert.KernelIdeal.Value.result_at m c r d).symm

/-- On every selected row the kernel and the reference end with the same result, over exact floats and the same arguments. -/
theorem agree : Cert.algebraic_KernelIdeal_ReferenceIdeal_on_separated (hKernelIdeal := Cert.KernelIdeal.Gen.facts)
    (hReferenceIdeal := Cert.ReferenceIdeal.Gen.facts) (hOn_separated := Cert.On_separated.Gen.facts) := by
  intro m g m' g' _ hargs
  refine ⟨fun c => Cert.KernelIdeal.Sae.refs (Cert.KernelIdeal.Sae.atEnd m) c Cert.KernelIdeal.main_v4, ?_, ?_⟩
  · refine (θ_run _ _ _).mono (fun r h c => ?_) (Cert.KernelIdeal.Sae.runs m g)
    have hread : ∀ a ∈ Cert.KernelIdeal.Sae.args, r.2.mem ((c.tc : Thread Cert.KernelIdeal.nD Cert.KernelIdeal.τ).loc a)
        = m ((c.tc : Thread Cert.KernelIdeal.nD Cert.KernelIdeal.τ).loc a) := fun a ha =>
      (h.1 c a ((by decide +kernel : ∀ a ∈ Cert.KernelIdeal.Sae.args, ¬(Proc.devRef .tc a : DevRef Cert.KernelIdeal.τ Cert.KernelIdeal.sig).isScoped) a ha)).trans
        (Cert.KernelIdeal.Sae.atEnd_args m c a ha)
    exact ⟨fun i _ => congrFun (h.1 c Cert.KernelIdeal.main_v4 (by decide +kernel)) i, hread _ (by decide), hread _ (by decide),
      hread _ (by decide), hread _ (by decide), hread _ (by decide)⟩
  · refine (θ_run _ _ _).mono (fun r h c => ?_) (Cert.ReferenceIdeal.Value.run (F := Ideal) m' g')
    obtain ⟨h0, h1, h2, h3, h4⟩ := hargs c
    exact ⟨fun i hi => (congrFun (h c).1 i).trans (results_agree m m' c h0 h1 h2 h3 h4 i hi), (h c).2⟩

/-- The certificate. -/
theorem claim : Cert.Claim := ⟨Cert.Kernel.Gen.facts, Cert.KernelIdeal.Gen.facts, Cert.ReferenceIdeal.Gen.facts, Cert.On_separated.Gen.facts,
  kernel_frame, ideal_frame, reference_frame, trivial, agree⟩

end Cert.Proof

end
